-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_on_hidden_only [hKernelIdeal : Cert.KernelIdeal.Facts] [hReferenceIdeal : Cert.ReferenceIdeal.Facts] [hOn_hidden_only : Cert.On_hidden_only.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![160, 2560]⟩ : Shape).Idx, (Cert.On_hidden_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 i = 1#1 → r.2.mem ((c.tc : Thread Cert.KernelIdeal.nD Cert.KernelIdeal.τ).loc Cert.KernelIdeal.main_v16_0) i = v0 c i)
          ∧ (∀ i : (⟨2, ![160, 9728]⟩ : Shape).Idx, (Cert.On_hidden_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2 i = 1#1 → r.2.mem ((c.tc : Thread Cert.KernelIdeal.nD Cert.KernelIdeal.τ).loc Cert.KernelIdeal.main_v16_1) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![160, 2560]⟩ : Shape).Idx, (Cert.On_hidden_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 i = 1#1 → r.2.mem ((c.tc : Thread Cert.ReferenceIdeal.nD Cert.ReferenceIdeal.τ).loc Cert.ReferenceIdeal.main_v219) i = v0 c i)
          ∧ (∀ i : (⟨2, ![160, 9728]⟩ : Shape).Idx, (Cert.On_hidden_only.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2 i = 1#1 → r.2.mem ((c.tc : Thread Cert.ReferenceIdeal.nD Cert.ReferenceIdeal.τ).loc Cert.ReferenceIdeal.main_v220) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hOn_hidden_only : Cert.On_hidden_only.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_hidden_only (hKernelIdeal := hKernelIdeal) (hReferenceIdeal := hReferenceIdeal) (hOn_hidden_only := hOn_hidden_only)
-- ==== On_hidden_only.lean ====
abbrev S160x1x2560 : Shape := ⟨3, ![160, 1, 2560]⟩
abbrev S9728x1280 : Shape := ⟨2, ![9728, 1280]⟩
abbrev S9728x80 : Shape := ⟨2, ![9728, 80]⟩
abbrev S2560x4864 : Shape := ⟨2, ![2560, 4864]⟩
abbrev S2560x304 : Shape := ⟨2, ![2560, 304]⟩
abbrev S160 : Shape := ⟨1, ![160]⟩
abbrev S7x2560x16 : Shape := ⟨3, ![7, 2560, 16]⟩
abbrev S7x16x9728 : Shape := ⟨3, ![7, 16, 9728]⟩
abbrev S7x9728x16 : Shape := ⟨3, ![7, 9728, 16]⟩
abbrev S7x16x2560 : Shape := ⟨3, ![7, 16, 2560]⟩
abbrev S_ : Shape := ⟨0, ![]⟩
abbrev S160x2560 : Shape := ⟨2, ![160, 2560]⟩
abbrev S160x9728 : Shape := ⟨2, ![160, 9728]⟩

class Facts : Prop where
  bcast_S_S160x2560 : S_.BroadcastsInDim S160x2560 (![] : Fin 0 → Fin S160x2560.rank)
  bcast_S_S160x9728 : S_.BroadcastsInDim S160x9728 (![] : Fin 0 → Fin S160x9728.rank)

variable [Facts]

def fn {F : FTy → Type} [FloatOps F] (main_arg0 : FVec F S160x1x2560 .bf16) (main_arg1 : IVec S9728x1280 8) (main_arg2 : IVec S9728x80 16) (main_arg3 : IVec S9728x1280 8) (main_arg4 : IVec S9728x80 16) (main_arg5 : IVec S2560x4864 8) (main_arg6 : IVec S2560x304 16) (main_arg7 : IVec S160 32) (main_arg8 : FVec F S7x2560x16 .bf16) (main_arg9 : FVec F S7x16x9728 .bf16) (main_arg10 : FVec F S7x2560x16 .bf16) (main_arg11 : FVec F S7x16x9728 .bf16) (main_arg12 : FVec F S7x9728x16 .bf16) (main_arg13 : FVec F S7x16x2560 .bf16) : IVec S160x2560 1 × IVec S160x9728 1 :=
  let main_c : IVec S_ 1 := constantI S_ 1 0#1
  let main_v0 : IVec S160x2560 1 := broadcastInDim S160x2560 ![] bcast_S_S160x2560 main_c
  let main_c_0 : IVec S_ 1 := constantI S_ 1 1#1
  let main_v1 : IVec S160x9728 1 := broadcastInDim S160x9728 ![] bcast_S_S160x9728 main_c_0
  (main_v0, main_v1)
-- ==== Kernel.lean ====
abbrev S160x1x2560 : Shape := ⟨3, ![160, 1, 2560]⟩
abbrev S9728x1280 : Shape := ⟨2, ![9728, 1280]⟩
abbrev S9728x80 : Shape := ⟨2, ![9728, 80]⟩
abbrev S2560x4864 : Shape := ⟨2, ![2560, 4864]⟩
abbrev S2560x304 : Shape := ⟨2, ![2560, 304]⟩
abbrev S160 : Shape := ⟨1, ![160]⟩
abbrev S7x2560x16 : Shape := ⟨3, ![7, 2560, 16]⟩
abbrev S7x16x9728 : Shape := ⟨3, ![7, 16, 9728]⟩
abbrev S7x9728x16 : Shape := ⟨3, ![7, 9728, 16]⟩
abbrev S7x16x2560 : Shape := ⟨3, ![7, 16, 2560]⟩
abbrev S160x1 : Shape := ⟨2, ![160, 1]⟩
abbrev S160x2560 : Shape := ⟨2, ![160, 2560]⟩
abbrev S80x9728 : Shape := ⟨2, ![80, 9728]⟩
abbrev S304x2560 : Shape := ⟨2, ![304, 2560]⟩
abbrev S112x2560 : Shape := ⟨2, ![112, 2560]⟩
abbrev S112x9728 : Shape := ⟨2, ![112, 9728]⟩
abbrev S160x9728 : Shape := ⟨2, ![160, 9728]⟩
abbrev S256x1280 : Shape := ⟨2, ![256, 1280]⟩
abbrev S80x256 : Shape := ⟨2, ![80, 256]⟩
abbrev S2560x128 : Shape := ⟨2, ![2560, 128]⟩
abbrev S8x2560 : Shape := ⟨2, ![8, 2560]⟩
abbrev S112x256 : Shape := ⟨2, ![112, 256]⟩
abbrev S160x256 : Shape := ⟨2, ![160, 256]⟩
abbrev S160x112 : Shape := ⟨2, ![160, 112]⟩
abbrev S160x128 : Shape := ⟨2, ![160, 128]⟩
abbrev S160x128x1 : Shape := ⟨3, ![160, 128, 1]⟩
abbrev S160x16 : Shape := ⟨2, ![160, 16]⟩
abbrev S40x256 : Shape := ⟨2, ![40, 256]⟩
abbrev S112x128 : Shape := ⟨2, ![112, 128]⟩
abbrev S16x256 : Shape := ⟨2, ![16, 256]⟩
abbrev S40x128 : Shape := ⟨2, ![40, 128]⟩
abbrev S256x256 : Shape := ⟨2, ![256, 256]⟩
abbrev S128x128 : Shape := ⟨2, ![128, 128]⟩
abbrev S128x1x128 : Shape := ⟨3, ![128, 1, 128]⟩
abbrev S128x2x128 : Shape := ⟨3, ![128, 2, 128]⟩
abbrev S256x128 : Shape := ⟨2, ![256, 128]⟩
abbrev S1x128 : Shape := ⟨2, ![1, 128]⟩
abbrev S16x128 : Shape := ⟨2, ![16, 128]⟩
abbrev S4x2560 : Shape := ⟨2, ![4, 2560]⟩
abbrev S4x128 : Shape := ⟨2, ![4, 128]⟩

abbrev nBuf : Space → Nat
  | .hbm => 32
  | .vmem => 30
  | .smem => 0
  | _ => 0

abbrev bufTy : (tb : Table) → Fin (tcTables nBuf tb) → BufTy
  | .hbm, ⟨0, _⟩ => ⟨S160x1x2560, .bf16⟩
  | .hbm, ⟨1, _⟩ => ⟨S9728x1280, .i8⟩
  | .hbm, ⟨2, _⟩ => ⟨S9728x80, .i16⟩
  | .hbm, ⟨3, _⟩ => ⟨S9728x1280, .i8⟩
  | .hbm, ⟨4, _⟩ => ⟨S9728x80, .i16⟩
  | .hbm, ⟨5, _⟩ => ⟨S2560x4864, .i8⟩
  | .hbm, ⟨6, _⟩ => ⟨S2560x304, .i16⟩
  | .hbm, ⟨7, _⟩ => ⟨S160, .i32⟩
  | .hbm, ⟨8, _⟩ => ⟨S7x2560x16, .bf16⟩
  | .hbm, ⟨9, _⟩ => ⟨S7x16x9728, .bf16⟩
  | .hbm, ⟨10, _⟩ => ⟨S7x2560x16, .bf16⟩
  | .hbm, ⟨11, _⟩ => ⟨S7x16x9728, .bf16⟩
  | .hbm, ⟨12, _⟩ => ⟨S7x9728x16, .bf16⟩
  | .hbm, ⟨13, _⟩ => ⟨S7x16x2560, .bf16⟩
  | .hbm, ⟨14, _⟩ => ⟨S160x1, .i32⟩
  | .hbm, ⟨15, _⟩ => ⟨S160, .i32⟩
  | .hbm, ⟨16, _⟩ => ⟨S160x1, .i32⟩
  | .hbm, ⟨17, _⟩ => ⟨S160x2560, .bf16⟩
  | .hbm, ⟨18, _⟩ => ⟨S80x9728, .i16⟩
  | .hbm, ⟨19, _⟩ => ⟨S80x9728, .i16⟩
  | .hbm, ⟨20, _⟩ => ⟨S304x2560, .i16⟩
  | .hbm, ⟨21, _⟩ => ⟨S7x16x2560, .bf16⟩
  | .hbm, ⟨22, _⟩ => ⟨S112x2560, .bf16⟩
  | .hbm, ⟨23, _⟩ => ⟨S112x9728, .bf16⟩
  | .hbm, ⟨24, _⟩ => ⟨S7x16x2560, .bf16⟩
  | .hbm, ⟨25, _⟩ => ⟨S112x2560, .bf16⟩
  | .hbm, ⟨26, _⟩ => ⟨S112x9728, .bf16⟩
  | .hbm, ⟨27, _⟩ => ⟨S7x16x9728, .bf16⟩
  | .hbm, ⟨28, _⟩ => ⟨S112x9728, .bf16⟩
  | .hbm, ⟨29, _⟩ => ⟨S112x2560, .bf16⟩
  | .hbm, ⟨30, _⟩ => ⟨S160x2560, .bf16⟩
  | .hbm, ⟨31, _⟩ => ⟨S160x9728, .bf16⟩
  | .local _ .vmem, ⟨0, _⟩ => ⟨S160x1, .i32⟩
  | .local _ .vmem, ⟨1, _⟩ => ⟨S160x2560, .bf16⟩
  | .local _ .vmem, ⟨2, _⟩ => ⟨S256x1280, .i8⟩
  | .local _ .vmem, ⟨3, _⟩ => ⟨S256x1280, .i8⟩
  | .local _ .vmem, ⟨4, _⟩ => ⟨S256x1280, .i8⟩
  | .local _ .vmem, ⟨5, _⟩ => ⟨S256x1280, .i8⟩
  | .local _ .vmem, ⟨6, _⟩ => ⟨S80x256, .i16⟩
  | .local _ .vmem, ⟨7, _⟩ => ⟨S80x256, .i16⟩
  | .local _ .vmem, ⟨8, _⟩ => ⟨S80x256, .i16⟩
  | .local _ .vmem, ⟨9, _⟩ => ⟨S80x256, .i16⟩
  | .local _ .vmem, ⟨10, _⟩ => ⟨S2560x128, .i8⟩
  | .local _ .vmem, ⟨11, _⟩ => ⟨S2560x128, .i8⟩
  | .local _ .vmem, ⟨12, _⟩ => ⟨S8x2560, .i16⟩
  | .local _ .vmem, ⟨13, _⟩ => ⟨S8x2560, .i16⟩
  | .local _ .vmem, ⟨14, _⟩ => ⟨S112x2560, .bf16⟩
  | .local _ .vmem, ⟨15, _⟩ => ⟨S112x256, .bf16⟩
  | .local _ .vmem, ⟨16, _⟩ => ⟨S112x256, .bf16⟩
  | .local _ .vmem, ⟨17, _⟩ => ⟨S112x2560, .bf16⟩
  | .local _ .vmem, ⟨18, _⟩ => ⟨S112x256, .bf16⟩
  | .local _ .vmem, ⟨19, _⟩ => ⟨S112x256, .bf16⟩
  | .local _ .vmem, ⟨20, _⟩ => ⟨S112x256, .bf16⟩
  | .local _ .vmem, ⟨21, _⟩ => ⟨S112x256, .bf16⟩
  | .local _ .vmem, ⟨22, _⟩ => ⟨S112x2560, .bf16⟩
  | .local _ .vmem, ⟨23, _⟩ => ⟨S160x2560, .bf16⟩
  | .local _ .vmem, ⟨24, _⟩ => ⟨S160x256, .bf16⟩
  | .local _ .vmem, ⟨25, _⟩ => ⟨S160x256, .bf16⟩
  | .local _ .vmem, ⟨26, _⟩ => ⟨S160x2560, .bf16⟩
  | .local _ .vmem, ⟨27, _⟩ => ⟨S160x256, .bf16⟩
  | .local _ .vmem, ⟨28, _⟩ => ⟨S160x2560, .f32⟩
  | .local _ .vmem, ⟨29, _⟩ => ⟨S160x112, .f32⟩
  | _, _ => ⟨S160x1x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16_0 : Ref sig .tc := ⟨.hbm, 30, rfl⟩
abbrev main_v16_1 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg15_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem14_0 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![38], ![false]⟩

def k0_cond2 (i : grid0.Coords) : BitVec 1 :=
  let arg0 : BitVec 32 := BitVec.ofNat 32 (i 0).val
  let c37_i32 : BitVec 32 := 37#32
  let v8443 : BitVec 1 := Scalar.cmpi .eq arg0 c37_i32
  let v8444 : BitVec 32 := Scalar.extui v8443
  let c0_i32_618 : BitVec 32 := 0#32
  let v8445 : BitVec 1 := Scalar.cmpi .ne v8444 c0_i32_618
  v8445

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S160x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S160x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1280 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1280 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S80x256 .i16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S80x256 .i16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2560x128 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x2560 .i16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S112x2560 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S112x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S112x2560 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S112x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S112x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S112x2560 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S160x2560 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S160x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceIdeal.lean ====
abbrev S160x1x2560 : Shape := ⟨3, ![160, 1, 2560]⟩
abbrev S9728x1280 : Shape := ⟨2, ![9728, 1280]⟩
abbrev S9728x80 : Shape := ⟨2, ![9728, 80]⟩
abbrev S2560x4864 : Shape := ⟨2, ![2560, 4864]⟩
abbrev S2560x304 : Shape := ⟨2, ![2560, 304]⟩
abbrev S160 : Shape := ⟨1, ![160]⟩
abbrev S7x2560x16 : Shape := ⟨3, ![7, 2560, 16]⟩
abbrev S7x16x9728 : Shape := ⟨3, ![7, 16, 9728]⟩
abbrev S7x9728x16 : Shape := ⟨3, ![7, 9728, 16]⟩
abbrev S7x16x2560 : Shape := ⟨3, ![7, 16, 2560]⟩
abbrev S160x1 : Shape := ⟨2, ![160, 1]⟩
abbrev S1x7 : Shape := ⟨2, ![1, 7]⟩
abbrev S160x7 : Shape := ⟨2, ![160, 7]⟩
abbrev S160x1x7x1 : Shape := ⟨4, ![160, 1, 7, 1]⟩
abbrev S_ : Shape := ⟨0, ![]⟩
abbrev S9728x80x16 : Shape := ⟨3, ![9728, 80, 16]⟩
abbrev S9728x80x1 : Shape := ⟨3, ![9728, 80, 1]⟩
abbrev S160x1x80x2x16 : Shape := ⟨5, ![160, 1, 80, 2, 16]⟩
abbrev S160x1x80x1x16 : Shape := ⟨5, ![160, 1, 80, 1, 16]⟩
abbrev S160x1x80x16 : Shape := ⟨4, ![160, 1, 80, 16]⟩
abbrev S160x1x1280 : Shape := ⟨3, ![160, 1, 1280]⟩
abbrev S160x1x9728 : Shape := ⟨3, ![160, 1, 9728]⟩
abbrev S160x1x7x16 : Shape := ⟨4, ![160, 1, 7, 16]⟩
abbrev S2560x304x16 : Shape := ⟨3, ![2560, 304, 16]⟩
abbrev S2560x304x1 : Shape := ⟨3, ![2560, 304, 1]⟩
abbrev S160x1x304x2x16 : Shape := ⟨5, ![160, 1, 304, 2, 16]⟩
abbrev S160x1x304x1x16 : Shape := ⟨5, ![160, 1, 304, 1, 16]⟩
abbrev S160x1x304x16 : Shape := ⟨4, ![160, 1, 304, 16]⟩
abbrev S160x1x4864 : Shape := ⟨3, ![160, 1, 4864]⟩
abbrev S160x2560 : Shape := ⟨2, ![160, 2560]⟩
abbrev S160x9728 : Shape := ⟨2, ![160, 9728]⟩

abbrev nBuf : Space → Nat
  | .hbm => 287
  | .vmem => 0
  | .smem => 0
  | _ => 0

abbrev hbmTy0_0 (i : Nat) : BufTy := match i % 128 with
  | 0 => ⟨S160x1x2560, .bf16⟩
  | 1 => ⟨S9728x1280, .i8⟩
  | 2 => ⟨S9728x80, .i16⟩
  | 3 => ⟨S9728x1280, .i8⟩
  | 4 => ⟨S9728x80, .i16⟩
  | 5 => ⟨S2560x4864, .i8⟩
  | 6 => ⟨S2560x304, .i16⟩
  | 7 => ⟨S160, .i32⟩
  | 8 => ⟨S7x2560x16, .bf16⟩
  | 9 => ⟨S7x16x9728, .bf16⟩
  | 10 => ⟨S7x2560x16, .bf16⟩
  | 11 => ⟨S7x16x9728, .bf16⟩
  | 12 => ⟨S7x9728x16, .bf16⟩
  | 13 => ⟨S7x16x2560, .bf16⟩
  | 14 => ⟨S160x1, .i32⟩
  | 15 => ⟨S1x7, .i32⟩
  | 16 => ⟨S160x7, .i32⟩
  | 17 => ⟨S160x7, .i32⟩
  | 18 => ⟨S160x7, .i1⟩
  | 19 => ⟨S160x7, .f32⟩
  | 20 => ⟨S160x1x7x1, .f32⟩
  | 21 => ⟨S9728x80, .i32⟩
  | 22 => ⟨S_, .i32⟩
  | 23 => ⟨S9728x80, .i32⟩
  | 24 => ⟨S9728x80, .i32⟩
  | 25 => ⟨S_, .i32⟩
  | 26 => ⟨S9728x80, .i32⟩
  | 27 => ⟨S9728x80, .i32⟩
  | 28 => ⟨S_, .i32⟩
  | 29 => ⟨S9728x80, .i32⟩
  | 30 => ⟨S9728x80, .i32⟩
  | 31 => ⟨S_, .i32⟩
  | 32 => ⟨S9728x80, .i32⟩
  | 33 => ⟨S9728x80, .i32⟩
  | 34 => ⟨S9728x80, .f32⟩
  | 35 => ⟨S_, .f32⟩
  | 36 => ⟨S9728x80, .f32⟩
  | 37 => ⟨S_, .i32⟩
  | 38 => ⟨S9728x80, .i32⟩
  | 39 => ⟨S9728x80, .i1⟩
  | 40 => ⟨S_, .f32⟩
  | 41 => ⟨S9728x80, .f32⟩
  | 42 => ⟨S9728x80, .f32⟩
  | 43 => ⟨S_, .f32⟩
  | 44 => ⟨S9728x80, .f32⟩
  | 45 => ⟨S9728x80, .f32⟩
  | 46 => ⟨S_, .i32⟩
  | 47 => ⟨S9728x80, .i32⟩
  | 48 => ⟨S9728x80, .i32⟩
  | 49 => ⟨S9728x80, .f32⟩
  | 50 => ⟨S9728x80, .f32⟩
  | 51 => ⟨S9728x80, .f32⟩
  | 52 => ⟨S9728x80, .f32⟩
  | 53 => ⟨S_, .i32⟩
  | 54 => ⟨S9728x80, .i32⟩
  | 55 => ⟨S9728x80, .i1⟩
  | 56 => ⟨S9728x80, .f32⟩
  | 57 => ⟨S9728x80, .f32⟩
  | 58 => ⟨S9728x1280, .i32⟩
  | 59 => ⟨S_, .i32⟩
  | 60 => ⟨S9728x1280, .i32⟩
  | 61 => ⟨S9728x1280, .i32⟩
  | 62 => ⟨S9728x1280, .f32⟩
  | 63 => ⟨S9728x80x16, .f32⟩
  | 64 => ⟨S_, .f32⟩
  | 65 => ⟨S9728x80x16, .f32⟩
  | 66 => ⟨S9728x80x16, .f32⟩
  | 67 => ⟨S9728x80x1, .f32⟩
  | 68 => ⟨S9728x80x16, .f32⟩
  | 69 => ⟨S9728x80x16, .f32⟩
  | 70 => ⟨S9728x1280, .f32⟩
  | 71 => ⟨S9728x1280, .bf16⟩
  | 72 => ⟨S9728x1280, .i32⟩
  | 73 => ⟨S_, .i32⟩
  | 74 => ⟨S9728x1280, .i32⟩
  | 75 => ⟨S9728x1280, .i32⟩
  | 76 => ⟨S9728x1280, .f32⟩
  | 77 => ⟨S9728x80x16, .f32⟩
  | 78 => ⟨S_, .f32⟩
  | 79 => ⟨S9728x80x16, .f32⟩
  | 80 => ⟨S9728x80x16, .f32⟩
  | 81 => ⟨S9728x80x1, .f32⟩
  | 82 => ⟨S9728x80x16, .f32⟩
  | 83 => ⟨S9728x80x16, .f32⟩
  | 84 => ⟨S9728x1280, .f32⟩
  | 85 => ⟨S9728x1280, .bf16⟩
  | 86 => ⟨S160x1x80x2x16, .bf16⟩
  | 87 => ⟨S160x1x80x1x16, .bf16⟩
  | 88 => ⟨S160x1x80x16, .bf16⟩
  | 89 => ⟨S160x1x1280, .bf16⟩
  | 90 => ⟨S160x1x80x1x16, .bf16⟩
  | 91 => ⟨S160x1x80x16, .bf16⟩
  | 92 => ⟨S160x1x1280, .bf16⟩
  | 93 => ⟨S160x1x9728, .f32⟩
  | 94 => ⟨S160x1x9728, .f32⟩
  | 95 => ⟨S160x1x9728, .f32⟩
  | 96 => ⟨S160x1x7x16, .f32⟩
  | 97 => ⟨S160x1x7x16, .f32⟩
  | 98 => ⟨S160x1x7x16, .f32⟩
  | 99 => ⟨S160x1x7x16, .bf16⟩
  | 100 => ⟨S160x1x9728, .f32⟩
  | 101 => ⟨S_, .f32⟩
  | 102 => ⟨S160x1x9728, .f32⟩
  | 103 => ⟨S160x1x9728, .f32⟩
  | 104 => ⟨S160x1x9728, .f32⟩
  | 105 => ⟨S9728x80, .i32⟩
  | 106 => ⟨S_, .i32⟩
  | 107 => ⟨S9728x80, .i32⟩
  | 108 => ⟨S9728x80, .i32⟩
  | 109 => ⟨S_, .i32⟩
  | 110 => ⟨S9728x80, .i32⟩
  | 111 => ⟨S9728x80, .i32⟩
  | 112 => ⟨S_, .i32⟩
  | 113 => ⟨S9728x80, .i32⟩
  | 114 => ⟨S9728x80, .i32⟩
  | 115 => ⟨S_, .i32⟩
  | 116 => ⟨S9728x80, .i32⟩
  | 117 => ⟨S9728x80, .i32⟩
  | 118 => ⟨S9728x80, .f32⟩
  | 119 => ⟨S_, .f32⟩
  | 120 => ⟨S9728x80, .f32⟩
  | 121 => ⟨S_, .i32⟩
  | 122 => ⟨S9728x80, .i32⟩
  | 123 => ⟨S9728x80, .i1⟩
  | 124 => ⟨S_, .f32⟩
  | 125 => ⟨S9728x80, .f32⟩
  | 126 => ⟨S9728x80, .f32⟩
  | 127 => ⟨S_, .f32⟩
  | _ => ⟨S160x1x2560, .bf16⟩

abbrev hbmTy0_1 (i : Nat) : BufTy := match i % 128 with
  | 0 => ⟨S9728x80, .f32⟩
  | 1 => ⟨S9728x80, .f32⟩
  | 2 => ⟨S_, .i32⟩
  | 3 => ⟨S9728x80, .i32⟩
  | 4 => ⟨S9728x80, .i32⟩
  | 5 => ⟨S9728x80, .f32⟩
  | 6 => ⟨S9728x80, .f32⟩
  | 7 => ⟨S9728x80, .f32⟩
  | 8 => ⟨S9728x80, .f32⟩
  | 9 => ⟨S_, .i32⟩
  | 10 => ⟨S9728x80, .i32⟩
  | 11 => ⟨S9728x80, .i1⟩
  | 12 => ⟨S9728x80, .f32⟩
  | 13 => ⟨S9728x80, .f32⟩
  | 14 => ⟨S9728x1280, .i32⟩
  | 15 => ⟨S_, .i32⟩
  | 16 => ⟨S9728x1280, .i32⟩
  | 17 => ⟨S9728x1280, .i32⟩
  | 18 => ⟨S9728x1280, .f32⟩
  | 19 => ⟨S9728x80x16, .f32⟩
  | 20 => ⟨S_, .f32⟩
  | 21 => ⟨S9728x80x16, .f32⟩
  | 22 => ⟨S9728x80x16, .f32⟩
  | 23 => ⟨S9728x80x1, .f32⟩
  | 24 => ⟨S9728x80x16, .f32⟩
  | 25 => ⟨S9728x80x16, .f32⟩
  | 26 => ⟨S9728x1280, .f32⟩
  | 27 => ⟨S9728x1280, .bf16⟩
  | 28 => ⟨S9728x1280, .i32⟩
  | 29 => ⟨S_, .i32⟩
  | 30 => ⟨S9728x1280, .i32⟩
  | 31 => ⟨S9728x1280, .i32⟩
  | 32 => ⟨S9728x1280, .f32⟩
  | 33 => ⟨S9728x80x16, .f32⟩
  | 34 => ⟨S_, .f32⟩
  | 35 => ⟨S9728x80x16, .f32⟩
  | 36 => ⟨S9728x80x16, .f32⟩
  | 37 => ⟨S9728x80x1, .f32⟩
  | 38 => ⟨S9728x80x16, .f32⟩
  | 39 => ⟨S9728x80x16, .f32⟩
  | 40 => ⟨S9728x1280, .f32⟩
  | 41 => ⟨S9728x1280, .bf16⟩
  | 42 => ⟨S160x1x80x2x16, .bf16⟩
  | 43 => ⟨S160x1x80x1x16, .bf16⟩
  | 44 => ⟨S160x1x80x16, .bf16⟩
  | 45 => ⟨S160x1x1280, .bf16⟩
  | 46 => ⟨S160x1x80x1x16, .bf16⟩
  | 47 => ⟨S160x1x80x16, .bf16⟩
  | 48 => ⟨S160x1x1280, .bf16⟩
  | 49 => ⟨S160x1x9728, .f32⟩
  | 50 => ⟨S160x1x9728, .f32⟩
  | 51 => ⟨S160x1x9728, .f32⟩
  | 52 => ⟨S160x1x7x16, .f32⟩
  | 53 => ⟨S160x1x7x16, .f32⟩
  | 54 => ⟨S160x1x7x16, .f32⟩
  | 55 => ⟨S160x1x7x16, .bf16⟩
  | 56 => ⟨S160x1x9728, .f32⟩
  | 57 => ⟨S_, .f32⟩
  | 58 => ⟨S160x1x9728, .f32⟩
  | 59 => ⟨S160x1x9728, .f32⟩
  | 60 => ⟨S160x1x9728, .f32⟩
  | 61 => ⟨S160x1x9728, .f32⟩
  | 62 => ⟨S160x1x9728, .f32⟩
  | 63 => ⟨S_, .f32⟩
  | 64 => ⟨S160x1x9728, .f32⟩
  | 65 => ⟨S160x1x9728, .f32⟩
  | 66 => ⟨S_, .f32⟩
  | 67 => ⟨S160x1x9728, .f32⟩
  | 68 => ⟨S160x1x9728, .f32⟩
  | 69 => ⟨S160x1x9728, .f32⟩
  | 70 => ⟨S160x1x9728, .f32⟩
  | 71 => ⟨S160x1x9728, .bf16⟩
  | 72 => ⟨S2560x304, .i32⟩
  | 73 => ⟨S_, .i32⟩
  | 74 => ⟨S2560x304, .i32⟩
  | 75 => ⟨S2560x304, .i32⟩
  | 76 => ⟨S_, .i32⟩
  | 77 => ⟨S2560x304, .i32⟩
  | 78 => ⟨S2560x304, .i32⟩
  | 79 => ⟨S_, .i32⟩
  | 80 => ⟨S2560x304, .i32⟩
  | 81 => ⟨S2560x304, .i32⟩
  | 82 => ⟨S_, .i32⟩
  | 83 => ⟨S2560x304, .i32⟩
  | 84 => ⟨S2560x304, .i32⟩
  | 85 => ⟨S2560x304, .f32⟩
  | 86 => ⟨S_, .f32⟩
  | 87 => ⟨S2560x304, .f32⟩
  | 88 => ⟨S_, .i32⟩
  | 89 => ⟨S2560x304, .i32⟩
  | 90 => ⟨S2560x304, .i1⟩
  | 91 => ⟨S_, .f32⟩
  | 92 => ⟨S2560x304, .f32⟩
  | 93 => ⟨S2560x304, .f32⟩
  | 94 => ⟨S_, .f32⟩
  | 95 => ⟨S2560x304, .f32⟩
  | 96 => ⟨S2560x304, .f32⟩
  | 97 => ⟨S_, .i32⟩
  | 98 => ⟨S2560x304, .i32⟩
  | 99 => ⟨S2560x304, .i32⟩
  | 100 => ⟨S2560x304, .f32⟩
  | 101 => ⟨S2560x304, .f32⟩
  | 102 => ⟨S2560x304, .f32⟩
  | 103 => ⟨S2560x304, .f32⟩
  | 104 => ⟨S_, .i32⟩
  | 105 => ⟨S2560x304, .i32⟩
  | 106 => ⟨S2560x304, .i1⟩
  | 107 => ⟨S2560x304, .f32⟩
  | 108 => ⟨S2560x304, .f32⟩
  | 109 => ⟨S2560x4864, .i32⟩
  | 110 => ⟨S_, .i32⟩
  | 111 => ⟨S2560x4864, .i32⟩
  | 112 => ⟨S2560x4864, .i32⟩
  | 113 => ⟨S2560x4864, .f32⟩
  | 114 => ⟨S2560x304x16, .f32⟩
  | 115 => ⟨S_, .f32⟩
  | 116 => ⟨S2560x304x16, .f32⟩
  | 117 => ⟨S2560x304x16, .f32⟩
  | 118 => ⟨S2560x304x1, .f32⟩
  | 119 => ⟨S2560x304x16, .f32⟩
  | 120 => ⟨S2560x304x16, .f32⟩
  | 121 => ⟨S2560x4864, .f32⟩
  | 122 => ⟨S2560x4864, .bf16⟩
  | 123 => ⟨S2560x4864, .i32⟩
  | 124 => ⟨S_, .i32⟩
  | 125 => ⟨S2560x4864, .i32⟩
  | 126 => ⟨S2560x4864, .i32⟩
  | 127 => ⟨S2560x4864, .f32⟩
  | _ => ⟨S160x1x2560, .bf16⟩

abbrev hbmTy0_2 (i : Nat) : BufTy := match i % 128 with
  | 0 => ⟨S2560x304x16, .f32⟩
  | 1 => ⟨S_, .f32⟩
  | 2 => ⟨S2560x304x16, .f32⟩
  | 3 => ⟨S2560x304x16, .f32⟩
  | 4 => ⟨S2560x304x1, .f32⟩
  | 5 => ⟨S2560x304x16, .f32⟩
  | 6 => ⟨S2560x304x16, .f32⟩
  | 7 => ⟨S2560x4864, .f32⟩
  | 8 => ⟨S2560x4864, .bf16⟩
  | 9 => ⟨S160x1x304x2x16, .bf16⟩
  | 10 => ⟨S160x1x304x1x16, .bf16⟩
  | 11 => ⟨S160x1x304x16, .bf16⟩
  | 12 => ⟨S160x1x4864, .bf16⟩
  | 13 => ⟨S160x1x304x1x16, .bf16⟩
  | 14 => ⟨S160x1x304x16, .bf16⟩
  | 15 => ⟨S160x1x4864, .bf16⟩
  | 16 => ⟨S160x1x2560, .f32⟩
  | 17 => ⟨S160x1x2560, .f32⟩
  | 18 => ⟨S160x1x2560, .f32⟩
  | 19 => ⟨S160x1x7x16, .f32⟩
  | 20 => ⟨S160x1x7x16, .f32⟩
  | 21 => ⟨S160x1x7x16, .f32⟩
  | 22 => ⟨S160x1x7x16, .bf16⟩
  | 23 => ⟨S160x1x2560, .f32⟩
  | 24 => ⟨S_, .f32⟩
  | 25 => ⟨S160x1x2560, .f32⟩
  | 26 => ⟨S160x1x2560, .f32⟩
  | 27 => ⟨S160x1x2560, .f32⟩
  | 28 => ⟨S160x1x2560, .bf16⟩
  | 29 => ⟨S160x2560, .bf16⟩
  | 30 => ⟨S160x9728, .bf16⟩
  | _ => ⟨S160x1x2560, .bf16⟩

abbrev hbmTy (i : Nat) : BufTy := match i / 128 with
  | 0 => hbmTy0_0 i
  | 1 => hbmTy0_1 i
  | 2 => hbmTy0_2 i
  | _ => ⟨S160x1x2560, .bf16⟩

abbrev bufTy : (tb : Table) → Fin (tcTables nBuf tb) → BufTy
  | .hbm, ⟨i, _⟩ => hbmTy i
  | _, _ => ⟨S160x1x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_c : Ref sig .tc := ⟨.hbm, 22, rfl⟩
abbrev main_v3 : Ref sig .tc := ⟨.hbm, 23, rfl⟩
abbrev main_v4 : Ref sig .tc := ⟨.hbm, 24, rfl⟩
abbrev main_c_0 : Ref sig .tc := ⟨.hbm, 25, rfl⟩
abbrev main_v5 : Ref sig .tc := ⟨.hbm, 26, rfl⟩
abbrev main_v6 : Ref sig .tc := ⟨.hbm, 27, rfl⟩
abbrev main_c_1 : Ref sig .tc := ⟨.hbm, 28, rfl⟩
abbrev main_v7 : Ref sig .tc := ⟨.hbm, 29, rfl⟩
abbrev main_v8 : Ref sig .tc := ⟨.hbm, 30, rfl⟩
abbrev main_c_2 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_cst : Ref sig .tc := ⟨.hbm, 35, rfl⟩
abbrev main_v12 : Ref sig .tc := ⟨.hbm, 36, rfl⟩
abbrev main_c_3 : Ref sig .tc := ⟨.hbm, 37, rfl⟩
abbrev main_v13 : Ref sig .tc := ⟨.hbm, 38, rfl⟩
abbrev main_v14 : Ref sig .tc := ⟨.hbm, 39, rfl⟩
abbrev main_cst_4 : Ref sig .tc := ⟨.hbm, 40, rfl⟩
abbrev main_v15 : Ref sig .tc := ⟨.hbm, 41, rfl⟩
abbrev main_v16 : Ref sig .tc := ⟨.hbm, 42, rfl⟩
abbrev main_cst_5 : Ref sig .tc := ⟨.hbm, 43, rfl⟩
abbrev main_v17 : Ref sig .tc := ⟨.hbm, 44, rfl⟩
abbrev main_v18 : Ref sig .tc := ⟨.hbm, 45, rfl⟩
abbrev main_c_6 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_c_7 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_c_8 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_9 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_c_10 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_cst_11 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_12 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_c_13 : Ref sig .tc := ⟨.hbm, 106, rfl⟩
abbrev main_v72 : Ref sig .tc := ⟨.hbm, 107, rfl⟩
abbrev main_v73 : Ref sig .tc := ⟨.hbm, 108, rfl⟩
abbrev main_c_14 : Ref sig .tc := ⟨.hbm, 109, rfl⟩
abbrev main_v74 : Ref sig .tc := ⟨.hbm, 110, rfl⟩
abbrev main_v75 : Ref sig .tc := ⟨.hbm, 111, rfl⟩
abbrev main_c_15 : Ref sig .tc := ⟨.hbm, 112, rfl⟩
abbrev main_v76 : Ref sig .tc := ⟨.hbm, 113, rfl⟩
abbrev main_v77 : Ref sig .tc := ⟨.hbm, 114, rfl⟩
abbrev main_c_16 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_cst_17 : Ref sig .tc := ⟨.hbm, 119, rfl⟩
abbrev main_v81 : Ref sig .tc := ⟨.hbm, 120, rfl⟩
abbrev main_c_18 : Ref sig .tc := ⟨.hbm, 121, rfl⟩
abbrev main_v82 : Ref sig .tc := ⟨.hbm, 122, rfl⟩
abbrev main_v83 : Ref sig .tc := ⟨.hbm, 123, rfl⟩
abbrev main_cst_19 : Ref sig .tc := ⟨.hbm, 124, rfl⟩
abbrev main_v84 : Ref sig .tc := ⟨.hbm, 125, rfl⟩
abbrev main_v85 : Ref sig .tc := ⟨.hbm, 126, rfl⟩
abbrev main_cst_20 : Ref sig .tc := ⟨.hbm, 127, rfl⟩
abbrev main_v86 : Ref sig .tc := ⟨.hbm, 128, rfl⟩
abbrev main_v87 : Ref sig .tc := ⟨.hbm, 129, rfl⟩
abbrev main_c_21 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_c_22 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_c_23 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_cst_24 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_c_25 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_cst_26 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_cst_27 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_cst_28 : Ref sig .tc := ⟨.hbm, 191, rfl⟩
abbrev main_v142 : Ref sig .tc := ⟨.hbm, 192, rfl⟩
abbrev main_v143 : Ref sig .tc := ⟨.hbm, 193, rfl⟩
abbrev main_cst_29 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_c_30 : Ref sig .tc := ⟨.hbm, 201, rfl⟩
abbrev main_v150 : Ref sig .tc := ⟨.hbm, 202, rfl⟩
abbrev main_v151 : Ref sig .tc := ⟨.hbm, 203, rfl⟩
abbrev main_c_31 : Ref sig .tc := ⟨.hbm, 204, rfl⟩
abbrev main_v152 : Ref sig .tc := ⟨.hbm, 205, rfl⟩
abbrev main_v153 : Ref sig .tc := ⟨.hbm, 206, rfl⟩
abbrev main_c_32 : Ref sig .tc := ⟨.hbm, 207, rfl⟩
abbrev main_v154 : Ref sig .tc := ⟨.hbm, 208, rfl⟩
abbrev main_v155 : Ref sig .tc := ⟨.hbm, 209, rfl⟩
abbrev main_c_33 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_cst_34 : Ref sig .tc := ⟨.hbm, 214, rfl⟩
abbrev main_v159 : Ref sig .tc := ⟨.hbm, 215, rfl⟩
abbrev main_c_35 : Ref sig .tc := ⟨.hbm, 216, rfl⟩
abbrev main_v160 : Ref sig .tc := ⟨.hbm, 217, rfl⟩
abbrev main_v161 : Ref sig .tc := ⟨.hbm, 218, rfl⟩
abbrev main_cst_36 : Ref sig .tc := ⟨.hbm, 219, rfl⟩
abbrev main_v162 : Ref sig .tc := ⟨.hbm, 220, rfl⟩
abbrev main_v163 : Ref sig .tc := ⟨.hbm, 221, rfl⟩
abbrev main_cst_37 : Ref sig .tc := ⟨.hbm, 222, rfl⟩
abbrev main_v164 : Ref sig .tc := ⟨.hbm, 223, rfl⟩
abbrev main_v165 : Ref sig .tc := ⟨.hbm, 224, rfl⟩
abbrev main_c_38 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_c_39 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩
abbrev main_c_40 : Ref sig .tc := ⟨.hbm, 238, rfl⟩
abbrev main_v177 : Ref sig .tc := ⟨.hbm, 239, rfl⟩
abbrev main_v178 : Ref sig .tc := ⟨.hbm, 240, rfl⟩
abbrev main_v179 : Ref sig .tc := ⟨.hbm, 241, rfl⟩
abbrev main_v180 : Ref sig .tc := ⟨.hbm, 242, rfl⟩
abbrev main_cst_41 : Ref sig .tc := ⟨.hbm, 243, rfl⟩
abbrev main_v181 : Ref sig .tc := ⟨.hbm, 244, rfl⟩
abbrev main_v182 : Ref sig .tc := ⟨.hbm, 245, rfl⟩
abbrev main_v183 : Ref sig .tc := ⟨.hbm, 246, rfl⟩
abbrev main_v184 : Ref sig .tc := ⟨.hbm, 247, rfl⟩
abbrev main_v185 : Ref sig .tc := ⟨.hbm, 248, rfl⟩
abbrev main_v186 : Ref sig .tc := ⟨.hbm, 249, rfl⟩
abbrev main_v187 : Ref sig .tc := ⟨.hbm, 250, rfl⟩
abbrev main_v188 : Ref sig .tc := ⟨.hbm, 251, rfl⟩
abbrev main_c_42 : Ref sig .tc := ⟨.hbm, 252, rfl⟩
abbrev main_v189 : Ref sig .tc := ⟨.hbm, 253, rfl⟩
abbrev main_v190 : Ref sig .tc := ⟨.hbm, 254, rfl⟩
abbrev main_v191 : Ref sig .tc := ⟨.hbm, 255, rfl⟩
abbrev main_v192 : Ref sig .tc := ⟨.hbm, 256, rfl⟩
abbrev main_cst_43 : Ref sig .tc := ⟨.hbm, 257, rfl⟩
abbrev main_v193 : Ref sig .tc := ⟨.hbm, 258, rfl⟩
abbrev main_v194 : Ref sig .tc := ⟨.hbm, 259, rfl⟩
abbrev main_v195 : Ref sig .tc := ⟨.hbm, 260, rfl⟩
abbrev main_v196 : Ref sig .tc := ⟨.hbm, 261, rfl⟩
abbrev main_v197 : Ref sig .tc := ⟨.hbm, 262, rfl⟩
abbrev main_v198 : Ref sig .tc := ⟨.hbm, 263, rfl⟩
abbrev main_v199 : Ref sig .tc := ⟨.hbm, 264, rfl⟩
abbrev main_v200 : Ref sig .tc := ⟨.hbm, 265, rfl⟩
abbrev main_v201 : Ref sig .tc := ⟨.hbm, 266, rfl⟩
abbrev main_v202 : Ref sig .tc := ⟨.hbm, 267, rfl⟩
abbrev main_v203 : Ref sig .tc := ⟨.hbm, 268, rfl⟩
abbrev main_v204 : Ref sig .tc := ⟨.hbm, 269, rfl⟩
abbrev main_v205 : Ref sig .tc := ⟨.hbm, 270, rfl⟩
abbrev main_v206 : Ref sig .tc := ⟨.hbm, 271, rfl⟩
abbrev main_v207 : Ref sig .tc := ⟨.hbm, 272, rfl⟩
abbrev main_v208 : Ref sig .tc := ⟨.hbm, 273, rfl⟩
abbrev main_v209 : Ref sig .tc := ⟨.hbm, 274, rfl⟩
abbrev main_v210 : Ref sig .tc := ⟨.hbm, 275, rfl⟩
abbrev main_v211 : Ref sig .tc := ⟨.hbm, 276, rfl⟩
abbrev main_v212 : Ref sig .tc := ⟨.hbm, 277, rfl⟩
abbrev main_v213 : Ref sig .tc := ⟨.hbm, 278, rfl⟩
abbrev main_v214 : Ref sig .tc := ⟨.hbm, 279, rfl⟩
abbrev main_cst_44 : Ref sig .tc := ⟨.hbm, 280, rfl⟩
abbrev main_v215 : Ref sig .tc := ⟨.hbm, 281, rfl⟩
abbrev main_v216 : Ref sig .tc := ⟨.hbm, 282, rfl⟩
abbrev main_v217 : Ref sig .tc := ⟨.hbm, 283, rfl⟩
abbrev main_v218 : Ref sig .tc := ⟨.hbm, 284, rfl⟩
abbrev main_v219 : Ref sig .tc := ⟨.hbm, 285, rfl⟩
abbrev main_v220 : Ref sig .tc := ⟨.hbm, 286, rfl⟩

abbrev nD : Nat := 1
abbrev τ : Topo := Topo.v7x

variable {F : FTy → Type} [FloatOps F]
-- ==== Proof.Ops.lean ====
module

public import proofs.«01_k».proof.Proof.Gen.KernelIdeal

@[expose] public section

noncomputable section

namespace Cert.Q4

open Idealize.ShloMosaic Cert.KernelIdeal Cert.KernelIdeal.Gen

variable {F : FTy → Type} [FloatOps F]

/-- A packed 4-bit block, transposed and unpacked: byte column `r` gives the rows `2r` (low code) and `2r + 1` (high
    code), each read as a signed number after the code's top bit is flipped. -/
def nibs (q : Vec F S128x128 .i8) : FVec F S256x128 .bf16 :=
  let v := extui 32 (xori (transpose S128x128 [1, 0] q (by decide)) (broadcast S128x128 136#8)) (by decide)
  let lo := shrsi (shli v (broadcast S128x128 28#32)) (broadcast S128x128 28#32)
  let hi := shrsi (shli v (broadcast S128x128 24#32)) (broadcast S128x128 28#32)
  sitofp .bf16 (shapeCast S256x128 (concatenate S128x2x128 1
    [⟨S128x1x128, shapeCast S128x1x128 lo (by decide)⟩, ⟨S128x1x128, shapeCast S128x1x128 hi (by decide)⟩]
    concatenates_S128x1x128_S128x1x128_S128x2x128_d1) (by decide))

/-- Row `r` of a block of scales, spread over sixteen rows. -/
def rowB {R : Nat} (v : FVec F ⟨2, ![R, 128]⟩ .bf16) (r : Nat) (h : Shape.Slices (s := ⟨2, ![R, 128]⟩) ![r, 0] S1x128) :
    FVec F S16x128 .bf16 :=
  broadcastTo S16x128 (shapeCast S1x128 (extractStridedSlice (s := ⟨2, ![R, 128]⟩) S1x128 ![r, 0] v h) (by decide)) (by decide)

/-- Sixteen rows of a block of codes times a scale given in two parts. -/
def mul2 (c : FVec F S256x128 .bf16) (o : Nat) (ho : S256x128.Slices ![o, 0] S16x128) (h l : FVec F S16x128 .bf16) :
    FVec F S16x128 .bf16 :=
  addf (mulf (extractStridedSlice S16x128 ![o, 0] c ho) h) (mulf (extractStridedSlice S16x128 ![o, 0] c ho) l)

/-- A block of 256 rows of weights: the codes times the scales of their groups of 32 rows; even groups' scales lie
    in `EH`, `EL` (their two parts), odd groups' in `OH`, `OL`, four rows of each from row `r0`. -/
def tile {R : Nat} (q : Vec F S128x128 .i8) (EH EL OH OL : FVec F ⟨2, ![R, 128]⟩ .bf16) (r0 : Nat)
    (h0 : Shape.Slices (s := ⟨2, ![R, 128]⟩) ![r0, 0] S1x128) (h1 : Shape.Slices (s := ⟨2, ![R, 128]⟩) ![r0 + 1, 0] S1x128)
    (h2 : Shape.Slices (s := ⟨2, ![R, 128]⟩) ![r0 + 2, 0] S1x128) (h3 : Shape.Slices (s := ⟨2, ![R, 128]⟩) ![r0 + 3, 0] S1x128) :
    FVec F S256x128 .bf16 :=
  concatenate S256x128 0
    [⟨S16x128, mul2 (nibs q) 0 (by decide) (rowB EH r0 h0) (rowB EL r0 h0)⟩,
     ⟨S16x128, mul2 (nibs q) 16 (by decide) (rowB EH r0 h0) (rowB EL r0 h0)⟩,
     ⟨S16x128, mul2 (nibs q) 32 (by decide) (rowB OH r0 h0) (rowB OL r0 h0)⟩,
     ⟨S16x128, mul2 (nibs q) 48 (by decide) (rowB OH r0 h0) (rowB OL r0 h0)⟩,
     ⟨S16x128, mul2 (nibs q) 64 (by decide) (rowB EH (r0 + 1) h1) (rowB EL (r0 + 1) h1)⟩,
     ⟨S16x128, mul2 (nibs q) 80 (by decide) (rowB EH (r0 + 1) h1) (rowB EL (r0 + 1) h1)⟩,
     ⟨S16x128, mul2 (nibs q) 96 (by decide) (rowB OH (r0 + 1) h1) (rowB OL (r0 + 1) h1)⟩,
     ⟨S16x128, mul2 (nibs q) 112 (by decide) (rowB OH (r0 + 1) h1) (rowB OL (r0 + 1) h1)⟩,
     ⟨S16x128, mul2 (nibs q) 128 (by decide) (rowB EH (r0 + 2) h2) (rowB EL (r0 + 2) h2)⟩,
     ⟨S16x128, mul2 (nibs q) 144 (by decide) (rowB EH (r0 + 2) h2) (rowB EL (r0 + 2) h2)⟩,
     ⟨S16x128, mul2 (nibs q) 160 (by decide) (rowB OH (r0 + 2) h2) (rowB OL (r0 + 2) h2)⟩,
     ⟨S16x128, mul2 (nibs q) 176 (by decide) (rowB OH (r0 + 2) h2) (rowB OL (r0 + 2) h2)⟩,
     ⟨S16x128, mul2 (nibs q) 192 (by decide) (rowB EH (r0 + 3) h3) (rowB EL (r0 + 3) h3)⟩,
     ⟨S16x128, mul2 (nibs q) 208 (by decide) (rowB EH (r0 + 3) h3) (rowB EL (r0 + 3) h3)⟩,
     ⟨S16x128, mul2 (nibs q) 224 (by decide) (rowB OH (r0 + 3) h3) (rowB OL (r0 + 3) h3)⟩,
     ⟨S16x128, mul2 (nibs q) 240 (by decide) (rowB OH (r0 + 3) h3) (rowB OL (r0 + 3) h3)⟩]
    concatenates_S16x128_S16x128_S16x128_S16x128_S16x128_S16x128_S16x128_S16x128_S16x128_S16x128_S16x128_S16x128_S16x128_S16x128_S16x128_S16x128_S256x128_d0

/-- A product of 160 rows with two blocks of weights side by side, from zero. -/
def prod2 (x : FVec F S160x256 .bf16) (a b : FVec F S256x128 .bf16) : FVec F S160x256 .f32 :=
  matmul dot_S160x256_S256x256_S160x256_1_0_0_1_n_n none x
    (concatenate S256x256 1 [⟨S256x128, a⟩, ⟨S256x128, b⟩] concatenates_S256x128_S256x128_S256x256_d1) (constant S160x256 .f32 0x00000000#32)

/-- The pattern words of the even rows of a block of scales, moved to float32 places. -/
def evenW {s : Shape} (w : IVec s 32) : IVec s 32 :=
  andi (shrsi (shli w (broadcast s 16#32)) (broadcast s 3#32)) (broadcast s 2415910912#32)

/-- The pattern words of the odd rows of a block of scales, moved to float32 places. -/
def oddW {s : Shape} (w : IVec s 32) : IVec s 32 :=
  andi (shrsi w (broadcast s 3#32)) (broadcast s 2415910912#32)

/-- The scale a moved pattern stands for. -/
def scaleOf {s : Shape} (b : IVec s 32) : FVec F s .f32 :=
  let v := bitcastToFloat .f32 (addi b (broadcast s 939524096#32))
  select (cmpi .eq (andi b (broadcast s 260046848#32)) (broadcast s 0#32))
    (subf (addf v v) (bitcastToFloat .f32 (ori (andi b (broadcast s 2147483648#32)) (broadcast s 947912704#32)))) v

/-- The first part of a scale. -/
def hiPart {s : Shape} (v : FVec F s .f32) : FVec F s .f32 :=
  let k := broadcast s (Scalar.ofBits (F := F) .f32 0x39800000#32)
  let c := mulf (addf v (mulf v k)) (broadcast s (Scalar.ofBits (F := F) .f32 0x49000010#32))
  subf c (subf c (addf v (mulf v k)))

/-- The two parts of a scale as the products read them. -/
def hiB {s : Shape} (v : FVec F s .f32) : FVec F s .bf16 := truncf .bf16 (hiPart v) (by decide)
@[inherit_doc hiB]
def loB {s : Shape} (v : FVec F s .f32) : FVec F s .bf16 := truncf .bf16 (subf v (hiPart v)) (by decide)

/-- The lane each lane of a permuted block is read from: within every 32 lanes, the even lanes come from the first
    sixteen and the odd lanes from the last sixteen. -/
def permI : IVec S160x128 32 :=
  let v0 : IVec S160x128 32 := iota .tc S160x128 32 [1] iota_S160x128_d1_w32
  let c32_i32 : BitVec 32 := 32#32
  let c0_i32 : BitVec 32 := 0#32
  let v1 : BitVec 1 := Scalar.cmpi .eq c32_i32 c0_i32
  let c1_i32 : BitVec 32 := 1#32
  let v2 : BitVec 32 := Scalar.select v1 c1_i32 c32_i32
  let v3 : IVec S160x128 32 := broadcast S160x128 v2
  let v4 : IVec S160x128 32 := remsi v0 v3
  let c0_i32_0 : BitVec 32 := 0#32
  let v5 : IVec S160x128 32 := broadcast S160x128 c0_i32_0
  let v6 : IVec S160x128 1 := cmpi .ne v4 v5
  let c0_i32_1 : BitVec 32 := 0#32
  let v7 : IVec S160x128 32 := broadcast S160x128 c0_i32_1
  let v8 : IVec S160x128 1 := cmpi .slt v4 v7
  let c0_i32_2 : BitVec 32 := 0#32
  let v9 : BitVec 1 := Scalar.cmpi .slt v2 c0_i32_2
  let v10 : IVec S160x128 1 := broadcast S160x128 v9
  let v11 : IVec S160x128 1 := broadcastTo S160x128 v10 broadcasts_S160x128_S160x128
  let v12 : IVec S160x128 1 := xori v8 v11
  let v13 : IVec S160x128 1 := andi v12 v6
  let v14 : IVec S160x128 32 := broadcast S160x128 v2
  let v15 : IVec S160x128 32 := addi v4 v14
  let v16 : IVec S160x128 32 := select v13 v15 v4
  let v17 : IVec S160x128 32 := subi v0 v16
  let c2_i32 : BitVec 32 := 2#32
  let c0_i32_3 : BitVec 32 := 0#32
  let v18 : BitVec 1 := Scalar.cmpi .eq c2_i32 c0_i32_3
  let c1_i32_4 : BitVec 32 := 1#32
  let v19 : BitVec 32 := Scalar.select v18 c1_i32_4 c2_i32
  let v20 : IVec S160x128 32 := broadcast S160x128 v19
  let v21 : IVec S160x128 32 := remsi v16 v20
  let c0_i32_5 : BitVec 32 := 0#32
  let v22 : IVec S160x128 32 := broadcast S160x128 c0_i32_5
  let v23 : IVec S160x128 1 := cmpi .ne v21 v22
  let c0_i32_6 : BitVec 32 := 0#32
  let v24 : IVec S160x128 32 := broadcast S160x128 c0_i32_6
  let v25 : IVec S160x128 1 := cmpi .slt v21 v24
  let c0_i32_7 : BitVec 32 := 0#32
  let v26 : BitVec 1 := Scalar.cmpi .slt v19 c0_i32_7
  let v27 : IVec S160x128 1 := broadcast S160x128 v26
  let v28 : IVec S160x128 1 := broadcastTo S160x128 v27 broadcasts_S160x128_S160x128
  let v29 : IVec S160x128 1 := xori v25 v28
  let v30 : IVec S160x128 1 := andi v29 v23
  let v31 : IVec S160x128 32 := broadcast S160x128 v19
  let v32 : IVec S160x128 32 := addi v21 v31
  let v33 : IVec S160x128 32 := select v30 v32 v21
  let c16_i32 : BitVec 32 := 16#32
  let v34 : IVec S160x128 32 := broadcast S160x128 c16_i32
  let v35 : IVec S160x128 32 := muli v33 v34
  let v36 : IVec S160x128 32 := addi v17 v35
  let c2_i32_8 : BitVec 32 := 2#32
  let v37 : IVec S160x128 32 := broadcast S160x128 c2_i32_8
  let v38 : IVec S160x128 32 := divsi v16 v37
  let c0_i32_9 : BitVec 32 := 0#32
  let v39 : IVec S160x128 32 := broadcast S160x128 c0_i32_9
  let v40 : IVec S160x128 1 := cmpi .sgt v16 v39
  let v41 : IVec S160x128 32 := extui 32 v40 natLt_1_32
  let c0_i32_10 : BitVec 32 := 0#32
  let v42 : IVec S160x128 32 := broadcast S160x128 c0_i32_10
  let v43 : IVec S160x128 1 := cmpi .slt v16 v42
  let v44 : IVec S160x128 32 := extui 32 v43 natLt_1_32
  let v45 : IVec S160x128 32 := subi v41 v44
  let c0_i32_11 : BitVec 32 := 0#32
  let v46 : BitVec 1 := Scalar.cmpi .sgt c2_i32_8 c0_i32_11
  let v47 : BitVec 32 := Scalar.extui v46
  let c0_i32_12 : BitVec 32 := 0#32
  let v48 : BitVec 1 := Scalar.cmpi .slt c2_i32_8 c0_i32_12
  let v49 : BitVec 32 := Scalar.extui v48
  let v50 : BitVec 32 := Scalar.subi v47 v49
  let v51 : IVec S160x128 32 := broadcast S160x128 v50
  let v52 : IVec S160x128 1 := cmpi .ne v45 v51
  let v53 : IVec S160x128 32 := broadcast S160x128 c2_i32_8
  let v54 : IVec S160x128 32 := remsi v16 v53
  let c0_i32_13 : BitVec 32 := 0#32
  let v55 : IVec S160x128 32 := broadcast S160x128 c0_i32_13
  let v56 : IVec S160x128 1 := cmpi .ne v54 v55
  let v57 : IVec S160x128 1 := andi v52 v56
  let c1_i32_14 : BitVec 32 := 1#32
  let v58 : IVec S160x128 32 := broadcast S160x128 c1_i32_14
  let v59 : IVec S160x128 32 := subi v38 v58
  let v60 : IVec S160x128 32 := select v57 v59 v38
  let v61 : IVec S160x128 32 := addi v36 v60
  v61

/-- A block of 128 lanes, its lanes permuted. -/
def permB (v : FVec F S160x128 .bf16) : FVec F S160x128 .bf16 :=
  let i := select (cmpi .slt permI (broadcast S160x128 0#32)) (addi permI (broadcast S160x128 128#32)) permI
  truncf .bf16 (dynamicGather 1 (extf .f32 v bitsLt_bf16_f32)
    (shapeCast S160x128 (shapeCast S160x128x1 i shapeCasts_S160x128_S160x128x1) shapeCasts_S160x128x1_S160x128)) bitsLt_bf16_f32

/-- The adapter each of the 112 low-rank columns belongs to. -/
def grpI : IVec S160x112 32 :=
  let v8751 : IVec S160x112 32 := iota .tc S160x112 32 [1] iota_S160x112_d1_w32
  let c16_i32_744 : BitVec 32 := 16#32
  let v8752 : IVec S160x112 32 := broadcast S160x112 c16_i32_744
  let v8753 : IVec S160x112 32 := divsi v8751 v8752
  let c0_i32_745 : BitVec 32 := 0#32
  let v8754 : IVec S160x112 32 := broadcast S160x112 c0_i32_745
  let v8755 : IVec S160x112 1 := cmpi .sgt v8751 v8754
  let v8756 : IVec S160x112 32 := extui 32 v8755 natLt_1_32
  let c0_i32_746 : BitVec 32 := 0#32
  let v8757 : IVec S160x112 32 := broadcast S160x112 c0_i32_746
  let v8758 : IVec S160x112 1 := cmpi .slt v8751 v8757
  let v8759 : IVec S160x112 32 := extui 32 v8758 natLt_1_32
  let v8760 : IVec S160x112 32 := subi v8756 v8759
  let c0_i32_747 : BitVec 32 := 0#32
  let v8761 : BitVec 1 := Scalar.cmpi .sgt c16_i32_744 c0_i32_747
  let v8762 : BitVec 32 := Scalar.extui v8761
  let c0_i32_748 : BitVec 32 := 0#32
  let v8763 : BitVec 1 := Scalar.cmpi .slt c16_i32_744 c0_i32_748
  let v8764 : BitVec 32 := Scalar.extui v8763
  let v8765 : BitVec 32 := Scalar.subi v8762 v8764
  let v8766 : IVec S160x112 32 := broadcast S160x112 v8765
  let v8767 : IVec S160x112 1 := cmpi .ne v8760 v8766
  let v8768 : IVec S160x112 32 := broadcast S160x112 c16_i32_744
  let v8769 : IVec S160x112 32 := remsi v8751 v8768
  let c0_i32_749 : BitVec 32 := 0#32
  let v8770 : IVec S160x112 32 := broadcast S160x112 c0_i32_749
  let v8771 : IVec S160x112 1 := cmpi .ne v8769 v8770
  let v8772 : IVec S160x112 1 := andi v8767 v8771
  let c1_i32_750 : BitVec 32 := 1#32
  let v8773 : IVec S160x112 32 := broadcast S160x112 c1_i32_750
  let v8774 : IVec S160x112 32 := subi v8753 v8773
  let v8775 : IVec S160x112 32 := select v8772 v8774 v8753
  v8775

/-- The low-rank columns of each row's own adapter, doubled; the others zero. -/
def selB (ids : Vec F S160x1 .i32) (t : FVec F S160x112 .f32) : FVec F S160x112 .bf16 :=
  let c := cmpi .eq grpI (broadcastTo S160x112 (shapeCast S160x1 ids shapeCasts_S160x1_S160x1) broadcasts_S160x1_S160x112)
  mulf (truncf .bf16 (select c t (broadcast S160x112 (Scalar.ofBits (F := F) .f32 0x00000000#32))) bitsLt_bf16_f32)
    (broadcast S160x112 (Scalar.ofBits (F := F) .bf16 0x4000#16))

/-- A row block's low-rank columns before the selection. -/
def lowB (x : FVec F S160x2560 .bf16) (a : FVec F S112x2560 .bf16) : FVec F S160x112 .f32 :=
  matmul dot_S160x2560_S112x2560_S160x112_1_1_0_0_n_n none (shapeCast S160x2560 x shapeCasts_S160x2560_S160x2560)
    (shapeCast S112x2560 a shapeCasts_S112x2560_S112x2560) (constant S160x112 .f32 0x00000000#32)

/-- One half of the scratch of low-rank columns: the 112 columns and sixteen zero columns. -/
def tPart (ids : Vec F S160x1 .i32) (t : FVec F S160x112 .f32) : FVec F S160x128 .bf16 :=
  concatenate S160x128 1 [⟨S160x112, selB ids t⟩, ⟨S160x16, broadcast S160x16 (Scalar.ofBits (F := F) .bf16 0x0000#16)⟩]
    concatenates_S160x112_S160x16_S160x128_d1

/-- The low-rank weights of the gate and of the up product in one block, off its diagonal zero. -/
def bdiag (g u : FVec F S112x128 .bf16) : FVec F S256x256 .bf16 :=
  let z := broadcast S112x128 (Scalar.ofBits (F := F) .bf16 0x0000#16)
  let z2 := broadcast S16x256 (Scalar.ofBits (F := F) .bf16 0x0000#16)
  concatenate S256x256 0
    [⟨S112x256, concatenate S112x256 1 [⟨S112x128, shapeCast S112x128 g shapeCasts_S112x128_S112x128⟩, ⟨S112x128, z⟩]
        concatenates_S112x128_S112x128_S112x256_d1⟩, ⟨S16x256, z2⟩,
     ⟨S112x256, concatenate S112x256 1 [⟨S112x128, z⟩, ⟨S112x128, shapeCast S112x128 u shapeCasts_S112x128_S112x128⟩]
        concatenates_S112x128_S112x128_S112x256_d1⟩, ⟨S16x256, z2⟩]
    concatenates_S112x256_S16x256_S112x256_S16x256_S256x256_d0

/-- The gate and up products of a block, the low-rank part first and then `n` blocks of 256 inputs. -/
def acc (t : FVec F S160x256 .bf16) (bg bu : FVec F S112x128 .bf16) (x : Fin 10 → FVec F S160x256 .bf16)
    (g u : Fin 10 → FVec F S256x128 .bf16) : (n : Nat) → n ≤ 10 → FVec F S160x256 .f32
  | 0, _ => matmul dot_S160x256_S256x256_S160x256_1_0_0_1_n_n none t (bdiag bg bu) (constant S160x256 .f32 0x00000000#32)
  | n + 1, h => addf (acc t bg bu x g u n (Nat.le_of_succ_le h)) (prod2 (x ⟨n, h⟩) (g ⟨n, h⟩) (u ⟨n, h⟩))

/-- The hidden block from its gate and up products. -/
def hid (a : FVec F S160x256 .f32) : FVec F S160x128 .bf16 :=
  let g := extractStridedSlice S160x128 ![0, 0] a slices_S160x256_o0_0_S160x128
  truncf .bf16 (mulf (mulf g (logistic g)) (extractStridedSlice S160x128 ![0, 128] a slices_S160x256_o0_128_S160x128))
    bitsLt_bf16_f32

/-- Two hidden blocks side by side, their lanes permuted. -/
def hidP (a b : FVec F S160x128 .bf16) : FVec F S160x256 .bf16 :=
  concatenate S160x256 1 [⟨S160x128, permB a⟩, ⟨S160x128, permB b⟩] concatenates_S160x128_S160x128_S160x256_d1

/-- 256 output columns more: what was there and the hidden block's products with two blocks of down weights. -/
def yAdd (y : FVec F S160x256 .f32) (h : FVec F S160x256 .bf16) (a b : FVec F S256x128 .bf16) : FVec F S160x256 .f32 :=
  shapeCast S160x256 (addf y (prod2 h a b)) shapeCasts_S160x256_S160x256

/-- The down product's low-rank columns, one hidden block more. -/
def tdAdd (t : FVec F S160x112 .f32) (h : FVec F S160x256 .bf16) (a : FVec F S112x256 .bf16) : FVec F S160x112 .f32 :=
  shapeCast S160x112 (addf t (matmul dot_S160x256_S112x256_S160x112_1_1_0_0_n_n none
    (shapeCast S160x256 h shapeCasts_S160x256_S160x256) (shapeCast S112x256 a shapeCasts_S112x256_S112x256)
    (constant S160x112 .f32 0x00000000#32))) shapeCasts_S160x112_S160x112

/-- The result rows: what has gathered and the low-rank part of the down product. -/
def yFin (ids : Vec F S160x1 .i32) (y : FVec F S160x2560 .f32) (t : FVec F S160x112 .f32) (b : FVec F S112x2560 .bf16) :
    FVec F S160x2560 .bf16 :=
  truncf .bf16 (addf y (matmul dot_S160x112_S112x2560_S160x2560_1_0_0_1_n_n none (selB ids t)
    (shapeCast S112x2560 b shapeCasts_S112x2560_S112x2560) (constant S160x2560 .f32 0x00000000#32))) bitsLt_bf16_f32

end Cert.Q4
-- ==== Proof.Blocks.lean ====
module

public import proofs.«01_k».proof.Proof.Ops
public import Idealize.ShloMosaic.Lib.Pipeline.Value
public import Idealize.ShloMosaic.Lib.Pipeline.ValueKit.Tiles

@[expose] public section

noncomputable section

namespace Cert.Q4

open Idealize.ShloMosaic Cert.KernelIdeal Cert.KernelIdeal.Gen

variable {F : FTy → Type} [FloatOps F]

/-- The `k`-th 256 columns of the input rows. -/
abbrev rX (k : Fin 10) : Rect S160x2560 := Rect.unit (s := S160x2560) ![0, 256 * k.val] S160x256.size
  (fun a => by obtain ⟨k, hk⟩ := k; fin_cases a <;> simp <;> omega)

/-- Rows and columns of packed gate or up codes: half `f` of the block's 256 rows, the `k`-th 128 bytes. -/
abbrev rQ (f : Fin 2) (k : Fin 10) : Rect S256x1280 := Rect.unit (s := S256x1280) ![128 * f.val, 128 * k.val] S128x128.size
  (fun a => by obtain ⟨k, hk⟩ := k; obtain ⟨f, hf⟩ := f; fin_cases a <;> simp <;> omega)

/-- Rows of packed down codes: output rows `256 d + 128 e` and on. -/
abbrev rD (d : Fin 10) (e : Fin 2) : Rect S2560x128 := Rect.unit (s := S2560x128) ![256 * d.val + 128 * e.val, 0] S128x128.size
  (fun a => by obtain ⟨k, hk⟩ := d; obtain ⟨f, hf⟩ := e; fin_cases a <;> simp <;> omega)

/-- Half `f` of the low-rank weights' columns. -/
abbrev rL (f : Fin 2) : Rect S112x256 := Rect.unit (s := S112x256) ![0, 128 * f.val] S112x128.size
  (fun a => by obtain ⟨f, hf⟩ := f; fin_cases a <;> simp <;> omega)

/-- Half `f` of a block of scales. -/
def half (f : Fin 2) (v : FVec F S40x256 .bf16) : FVec F S40x128 .bf16 :=
  extractStridedSlice S40x128 ![0, 128 * f.val] v
    ⟨rfl, fun a => by obtain ⟨f, hf⟩ := f; fin_cases a <;> simp <;> omega⟩

/-- 128 columns of a block of down scales. -/
def dcol (d : Fin 10) (e : Fin 2) (v : FVec F S4x2560 .bf16) : FVec F S4x128 .bf16 :=
  extractStridedSlice S4x128 ![0, 256 * d.val + 128 * e.val] v
    ⟨rfl, fun a => by obtain ⟨k, hk⟩ := d; obtain ⟨f, hf⟩ := e; fin_cases a <;> simp <;> omega⟩

/-- The pattern words of a block of gate or up scales, two rows to a word. -/
def gword (w : Vec F S80x256 .i16) : IVec S40x256 32 :=
  bitcast S40x256 32 (shapeCast S80x256 w shapeCasts_S80x256_S80x256) bitcasts_S80x256_w16_S40x256_w32

/-- The pattern words of a block of down scales, two rows to a word. -/
def dword (w : Vec F S8x2560 .i16) : IVec S4x2560 32 :=
  bitcast S4x2560 32 (shapeCast S8x2560 w shapeCasts_S8x2560_S8x2560) bitcasts_S8x2560_w16_S4x2560_w32

/-- A gate or up weight block: half `f` of 256 output columns, the `k`-th 256 inputs. -/
def gtile (f : Fin 2) (k : Fin 10) (q : Vec F S128x128 .i8) (w : Vec F S80x256 .i16) : FVec F S256x128 .bf16 :=
  tile (R := 40) q (half f (hiB (scaleOf (evenW (gword w))))) (half f (loB (scaleOf (evenW (gword w)))))
    (half f (hiB (scaleOf (oddW (gword w))))) (half f (loB (scaleOf (oddW (gword w))))) (4 * k.val)
    ⟨rfl, fun a => by obtain ⟨k, hk⟩ := k; fin_cases a <;> simp <;> omega⟩
    ⟨rfl, fun a => by obtain ⟨k, hk⟩ := k; fin_cases a <;> simp <;> omega⟩
    ⟨rfl, fun a => by obtain ⟨k, hk⟩ := k; fin_cases a <;> simp <;> omega⟩
    ⟨rfl, fun a => by obtain ⟨k, hk⟩ := k; fin_cases a <;> simp <;> omega⟩

/-- A down weight block: 128 output columns, 256 hidden inputs. -/
def dtile (d : Fin 10) (e : Fin 2) (q : Vec F S128x128 .i8) (w : Vec F S8x2560 .i16) : FVec F S256x128 .bf16 :=
  tile (R := 4) q (dcol d e (hiB (scaleOf (evenW (dword w))))) (dcol d e (loB (scaleOf (evenW (dword w)))))
    (dcol d e (hiB (scaleOf (oddW (dword w))))) (dcol d e (loB (scaleOf (oddW (dword w))))) 0
    (by decide) (by decide) (by decide) (by decide)

/-- Half `f` of a hidden block, of the scratch's low-rank columns `t`, the low-rank weights `bg`, `bu`, the permuted
    input `x`, the packed codes `g`, `u` and their scales `gs`, `us`. -/
def hblk (f : Fin 2) (t : FVec F S160x256 .bf16) (bg bu : FVec F S112x128 .bf16) (x : Fin 10 → FVec F S160x256 .bf16)
    (g u : Fin 10 → Vec F S128x128 .i8) (gs us : Vec F S80x256 .i16) : FVec F S160x128 .bf16 :=
  hid (acc t bg bu x (fun k => gtile f k (g k) gs) (fun k => gtile f k (u k) us) 10 (le_refl 10))

/-- Half `f` of the hidden block from the blocks of a grid point and the two scratches it reads. -/
def hOf (f : Fin 2) (x2 x3 : Vec F S256x1280 .i8) (x4 x5 : Vec F S80x256 .i16) (x9 x11 : Vec F S112x256 .bf16)
    (xs0 : Vec F S160x2560 .bf16) (xs1 : Vec F S160x256 .bf16) : FVec F S160x128 .bf16 :=
  hblk f xs1 (View.ld x9 (rL f)) (View.ld x11 (rL f)) (fun k => View.ld xs0 (rX k)) (fun k => View.ld x2 (rQ f k))
    (fun k => View.ld x3 (rQ f k)) x4 x5

/-- The hidden block: its two halves as stored. -/
def hArr (x2 x3 : Vec F S256x1280 .i8) (x4 x5 : Vec F S80x256 .i16) (x9 x11 : Vec F S112x256 .bf16)
    (xs0 : Vec F S160x2560 .bf16) (xs1 : Vec F S160x256 .bf16) : Vec F S160x256 .bf16 :=
  View.canon (Val := Elt F) (s := S160x256) (e := .bf16)
    [⟨Rect.unit (s := S160x256) ![0, 128] S160x128.size inb_S160x256_S160x128_0_128, hOf 1 x2 x3 x4 x5 x9 x11 xs0 xs1⟩,
     ⟨Rect.unit (s := S160x256) ![0, 0] S160x128.size inb_S160x256_S160x128_0_0, hOf 0 x2 x3 x4 x5 x9 x11 xs0 xs1⟩]

/-- One block of 256 gathered output columns, the hidden block's two halves `h0`, `h1` added to `y`. -/
def yPiece (d : Fin 10) (y : FVec F S160x256 .f32) (h0 h1 : FVec F S160x128 .bf16) (x6 : Vec F S2560x128 .i8) (x7 : Vec F S8x2560 .i16) :
    FVec F S160x256 .f32 :=
  yAdd y (hidP h0 h1) (dtile d 0 (View.ld x6 (rD d 0)) x7) (dtile d 1 (View.ld x6 (rD d 1)) x7)

/-- The gathered output columns after a grid point: what was there and the hidden block's part, block by block. -/
def yArr (h0 h1 : FVec F S160x128 .bf16) (x6 : Vec F S2560x128 .i8) (x7 : Vec F S8x2560 .i16) (xs2 : Vec F S160x2560 .f32) :
    Vec F S160x2560 .f32 :=
  View.canon (Val := Elt F) (s := S160x2560) (e := .f32)
    [⟨rX 9, yPiece 9 (View.ld xs2 (rX 9)) h0 h1 x6 x7⟩, ⟨rX 8, yPiece 8 (View.ld xs2 (rX 8)) h0 h1 x6 x7⟩,
     ⟨rX 7, yPiece 7 (View.ld xs2 (rX 7)) h0 h1 x6 x7⟩, ⟨rX 6, yPiece 6 (View.ld xs2 (rX 6)) h0 h1 x6 x7⟩,
     ⟨rX 5, yPiece 5 (View.ld xs2 (rX 5)) h0 h1 x6 x7⟩, ⟨rX 4, yPiece 4 (View.ld xs2 (rX 4)) h0 h1 x6 x7⟩,
     ⟨rX 3, yPiece 3 (View.ld xs2 (rX 3)) h0 h1 x6 x7⟩, ⟨rX 2, yPiece 2 (View.ld xs2 (rX 2)) h0 h1 x6 x7⟩,
     ⟨rX 1, yPiece 1 (View.ld xs2 (rX 1)) h0 h1 x6 x7⟩, ⟨rX 0, yPiece 0 (View.ld xs2 (rX 0)) h0 h1 x6 x7⟩]

/-- 128 columns of the input rows. -/
abbrev rP (j : Fin 20) : Rect S160x2560 := Rect.unit (s := S160x2560) ![0, 128 * j.val] S160x128.size
  (fun a => by obtain ⟨k, hk⟩ := j; fin_cases a <;> simp <;> omega)

/-- The stores of the permuted input rows, 128 columns each, the last first. -/
def xpHist (x1 : Vec F S160x2560 .bf16) : List (View.Piece (Elt F) S160x2560 .bf16) :=
  [19, 18, 17, 16, 15, 14, 13, 12, 11, 10, 9, 8, 7, 6, 5, 4, 3, 2, 1, 0].map fun j : Fin 20 =>
    (⟨rP j, shapeCast S160x128 (permB (shapeCast S160x128 (View.ld x1 (rP j)) shapeCasts_S160x128_S160x128)) shapeCasts_S160x128_S160x128⟩ : View.Piece (Elt F) S160x2560 .bf16)

/-- The permuted input rows. -/
def xpArr (x1 : Vec F S160x2560 .bf16) : Vec F S160x2560 .bf16 := View.canon (xpHist x1)

/-- The gate and up products' low-rank columns. -/
def tArr (x0 : Vec F S160x1 .i32) (x1 : Vec F S160x2560 .bf16) (x8 x10 : Vec F S112x2560 .bf16) : Vec F S160x256 .bf16 :=
  View.canon (Val := Elt F) (s := S160x256) (e := .bf16)
    [⟨Rect.unit (s := S160x256) ![0, 128] S160x128.size inb_S160x256_S160x128_0_128, shapeCast S160x128 (tPart x0 (lowB x1 x10)) shapeCasts_S160x128_S160x128⟩,
     ⟨Rect.unit (s := S160x256) ![0, 0] S160x128.size inb_S160x256_S160x128_0_0, shapeCast S160x128 (tPart x0 (lowB x1 x8)) shapeCasts_S160x128_S160x128⟩]

/-- The zeros the gathered output columns start from. -/
def yZero : Vec F S160x2560 .f32 :=
  shapeCast S160x2560 (broadcast S160x2560 (Scalar.ofBits (F := F) .f32 0x00000000#32)) shapeCasts_S160x2560_S160x2560

/-- The zeros the down product's low-rank columns start from. -/
def tZero : Vec F S160x112 .f32 :=
  shapeCast S160x112 (broadcast S160x112 (Scalar.ofBits (F := F) .f32 0x00000000#32)) shapeCasts_S160x112_S160x112

/-- Two of the ten column blocks do not meet. -/
theorem rX_disj (i j : Fin 10) (h : i ≠ j) : Disjoint (rX i).set (rX j).toLoadRect.set :=
  Rect.unit_disjoint 1 (by
    have h1 : i.val ≠ j.val := fun e => h (Fin.ext e)
    show 256 * i.val + 256 ≤ 256 * j.val ∨ 256 * j.val + 256 ≤ 256 * i.val
    omega)

/-- A load of one column block after a store into another. -/
theorem readCov_skip {κ : Kind} {sp : Space} (v : View sig κ sp S160x2560 .f32) (i j : Fin 10) (h : i ≠ j) (w : (rX i).shape.Idx → Elt F .f32)
    (L : List (View.Piece (Elt F) S160x2560 .f32)) :
    v.readCov (⟨rX i, w⟩ :: L) (rX j).toLoadRect = v.readCov L (rX j).toLoadRect :=
  View.readCov_cons_of_disjoint v _ L _ (rX_disj i j h)

/-- The ten stores of gathered output columns over earlier stores `M`, from the ten blocks they start from. -/
def yCons (hp : FVec F S160x256 .bf16) (T : Fin 10 → Fin 2 → FVec F S256x128 .bf16) (M : List (View.Piece (Elt F) S160x2560 .f32))
    (l0 l1 l2 l3 l4 l5 l6 l7 l8 l9 : FVec F S160x256 .f32) : List (View.Piece (Elt F) S160x2560 .f32) :=
  [⟨rX 9, yAdd l9 hp (T 9 0) (T 9 1)⟩, ⟨rX 8, yAdd l8 hp (T 8 0) (T 8 1)⟩, ⟨rX 7, yAdd l7 hp (T 7 0) (T 7 1)⟩,
   ⟨rX 6, yAdd l6 hp (T 6 0) (T 6 1)⟩, ⟨rX 5, yAdd l5 hp (T 5 0) (T 5 1)⟩, ⟨rX 4, yAdd l4 hp (T 4 0) (T 4 1)⟩,
   ⟨rX 3, yAdd l3 hp (T 3 0) (T 3 1)⟩, ⟨rX 2, yAdd l2 hp (T 2 0) (T 2 1)⟩, ⟨rX 1, yAdd l1 hp (T 1 0) (T 1 1)⟩,
   ⟨rX 0, yAdd l0 hp (T 0 0) (T 0 1)⟩] ++ M

/-- Where some store of a list reaches an index, earlier stores do not show there. -/
theorem canon_append_of_cover {s : Shape} {e : EltTy} (M : List (View.Piece (Elt F) s e)) (y : s.Idx) :
    ∀ L : List (View.Piece (Elt F) s e), (∃ p ∈ L, y ∈ p.1.set) → View.canon (L ++ M) y = View.canon L y
  | [], h => by obtain ⟨p, hp, _⟩ := h; simp at hp
  | p :: L, h => by
    rw [List.cons_append]
    by_cases hm : y ∈ p.1.set
    · obtain ⟨x, rfl⟩ := p.1.exists_idx_of_mem hm
      obtain ⟨r, w⟩ := p
      rw [show r.idx x = r.emb x from rfl, View.canon_cons_emb, View.canon_cons_emb]
    · rw [View.canon_cons_of_not_mem _ _ hm, View.canon_cons_of_not_mem _ _ hm]
      refine canon_append_of_cover M y L ?_
      obtain ⟨q, hq, hyq⟩ := h
      rcases List.mem_cons.mp hq with rfl | hq'
      · exact absurd hyq hm
      · exact ⟨q, hq', hyq⟩

/-- An index in the `k`-th 256 columns. -/
theorem mem_rX (k : Fin 10) (y : S160x2560.Idx) (h0 : 256 * k.val ≤ (y 1).val) (h1 : (y 1).val < 256 * k.val + 256) : y ∈ (rX k).set := by
  rw [Rect.mem_set_unit]
  intro a
  fin_cases a
  · exact ⟨Nat.zero_le _, by have := (y 0).isLt; simpa using this⟩
  · exact ⟨h0, h1⟩

/-- The ten column blocks reach every column. -/
theorem rX_cover (w : (k : Fin 10) → (rX k).shape.Idx → Elt F .f32) (y : S160x2560.Idx) :
    ∃ p ∈ ([⟨rX 9, w 9⟩, ⟨rX 8, w 8⟩, ⟨rX 7, w 7⟩, ⟨rX 6, w 6⟩, ⟨rX 5, w 5⟩, ⟨rX 4, w 4⟩, ⟨rX 3, w 3⟩, ⟨rX 2, w 2⟩,
      ⟨rX 1, w 1⟩, ⟨rX 0, w 0⟩] : List (View.Piece (Elt F) S160x2560 .f32)), y ∈ p.1.set := by
  have hy : (y 1).val < 2560 := (y 1).isLt
  have hk : (y 1).val / 256 < 10 := by omega
  refine ⟨⟨rX ⟨_, hk⟩, w ⟨_, hk⟩⟩, ?_, mem_rX ⟨_, hk⟩ y (by show 256 * ((y 1).val / 256) ≤ _; omega) (by show _ < 256 * ((y 1).val / 256) + 256; omega)⟩
  generalize (⟨_, hk⟩ : Fin 10) = k
  fin_cases k <;> simp

/-- The gathered output columns do not depend on what the ten stores overwrite. -/
theorem canon_yArr_append (h0 h1 : FVec F S160x128 .bf16) (x6 : Vec F S2560x128 .i8) (x7 : Vec F S8x2560 .i16) (xs2 : Vec F S160x2560 .f32)
    (M : List (View.Piece (Elt F) S160x2560 .f32)) :
    View.canon (([⟨rX 9, yPiece 9 (View.ld xs2 (rX 9)) h0 h1 x6 x7⟩, ⟨rX 8, yPiece 8 (View.ld xs2 (rX 8)) h0 h1 x6 x7⟩,
     ⟨rX 7, yPiece 7 (View.ld xs2 (rX 7)) h0 h1 x6 x7⟩, ⟨rX 6, yPiece 6 (View.ld xs2 (rX 6)) h0 h1 x6 x7⟩,
     ⟨rX 5, yPiece 5 (View.ld xs2 (rX 5)) h0 h1 x6 x7⟩, ⟨rX 4, yPiece 4 (View.ld xs2 (rX 4)) h0 h1 x6 x7⟩,
     ⟨rX 3, yPiece 3 (View.ld xs2 (rX 3)) h0 h1 x6 x7⟩, ⟨rX 2, yPiece 2 (View.ld xs2 (rX 2)) h0 h1 x6 x7⟩,
     ⟨rX 1, yPiece 1 (View.ld xs2 (rX 1)) h0 h1 x6 x7⟩, ⟨rX 0, yPiece 0 (View.ld xs2 (rX 0)) h0 h1 x6 x7⟩] :
      List (View.Piece (Elt F) S160x2560 .f32)) ++ M) = yArr h0 h1 x6 x7 xs2 :=
  funext fun y => canon_append_of_cover M y _ (rX_cover (fun k => yPiece k (View.ld xs2 (rX k)) h0 h1 x6 x7) y)

end Cert.Q4
-- ==== Proof.StepA.lean ====
module

public import proofs.«01_k».proof.Proof.Blocks
public import proofs.«01_k».proof.Proof.Gen.KernelIdeal.Frame

@[expose] public section

set_option maxRecDepth 16384

noncomputable section

namespace Cert.Q4

open Idealize.ShloMosaic Idealize.ShloMosaic.TcCoe Cert.KernelIdeal Cert.KernelIdeal.Gen

variable {F : FTy → Type} [FloatOps F]
variable (c : Dev nD) (i : grid0.Coords) (arg1 : Memref sig .tc .vmem S160x1 .i32) (harg1 : arg1.IsWhole) (arg2 : Memref sig .tc .vmem S160x2560 .bf16) (harg2 : arg2.IsWhole) (arg3 : Memref sig .tc .vmem S256x1280 .i8) (harg3 : arg3.IsWhole) (arg4 : Memref sig .tc .vmem S256x1280 .i8) (harg4 : arg4.IsWhole) (arg5 : Memref sig .tc .vmem S80x256 .i16) (harg5 : arg5.IsWhole) (arg6 : Memref sig .tc .vmem S80x256 .i16) (harg6 : arg6.IsWhole) (arg7 : Memref sig .tc .vmem S2560x128 .i8) (harg7 : arg7.IsWhole) (arg8 : Memref sig .tc .vmem S8x2560 .i16) (harg8 : arg8.IsWhole) (arg9 : Memref sig .tc .vmem S112x2560 .bf16) (harg9 : arg9.IsWhole) (arg10 : Memref sig .tc .vmem S112x256 .bf16) (harg10 : arg10.IsWhole) (arg11 : Memref sig .tc .vmem S112x2560 .bf16) (harg11 : arg11.IsWhole) (arg12 : Memref sig .tc .vmem S112x256 .bf16) (harg12 : arg12.IsWhole) (arg13 : Memref sig .tc .vmem S112x256 .bf16) (harg13 : arg13.IsWhole) (arg14 : Memref sig .tc .vmem S112x2560 .bf16) (harg14 : arg14.IsWhole) (arg15 : Memref sig .tc .vmem S160x2560 .bf16) (harg15 : arg15.IsWhole) (arg16 : Memref sig .tc .vmem S160x256 .bf16) (harg16 : arg16.IsWhole) (arg17 : Memref sig .tc .vmem S160x2560 .bf16) (harg17 : arg17.IsWhole) (arg18 : Memref sig .tc .vmem S160x256 .bf16) (harg18 : arg18.IsWhole) (arg19 : Memref sig .tc .vmem S160x2560 .f32) (harg19 : arg19.IsWhole) (arg20 : Memref sig .tc .vmem S160x112 .f32) (harg20 : arg20.IsWhole) (hc0 : cond0_0 i) (hc1 : ¬cond0_1 i) (x0 : Vec F S160x1 .i32) (x1 : Vec F S160x2560 .bf16) (x2 : Vec F S256x1280 .i8) (x3 : Vec F S256x1280 .i8) (x4 : Vec F S80x256 .i16) (x5 : Vec F S80x256 .i16) (x6 : Vec F S2560x128 .i8) (x7 : Vec F S8x2560 .i16) (x8 : Vec F S112x2560 .bf16) (x9 : Vec F S112x256 .bf16) (x10 : Vec F S112x2560 .bf16) (x11 : Vec F S112x256 .bf16) (x12 : Vec F S112x256 .bf16) (x13 : Vec F S112x2560 .bf16)

private theorem hz0 : (![0, 0] : Fin 2 → Nat) = fun _ => 0 := funext fun a => by fin_cases a <;> rfl

/-- The stores of the permuted input rows. -/
theorem histXP : (kernelRun0_A.sl.HS0_20 c arg2 harg2 x1) = xpHist x1 := by
  have h : (kernelRun0_A.sl.HS0_20 c arg2 harg2 x1) = [19, 18, 17, 16, 15, 14, 13, 12, 11, 10, 9, 8, 7, 6, 5, 4, 3, 2, 1, 0].map fun j : Fin 20 =>
    (⟨rP j, shapeCast S160x128 (permB (shapeCast S160x128 (View.readAt (Elt F) arg2.view (rP j).toLoadRect (harg2.unread x1)) shapeCasts_S160x128_S160x128)) shapeCasts_S160x128_S160x128⟩ : View.Piece (Elt F) S160x2560 .bf16) := rfl
  rw [h]
  simp only [View.readAt_eq_ld, harg2.read_unread]
  rfl

/-- A load of the permuted input rows. -/
theorem readCov_xp (B : Rect S160x2560) : arg17.view.readCov (kernelRun0_A.sl.HS0_20 c arg2 harg2 x1) B.toLoadRect = View.ld (xpArr x1) B := by
  rw [histXP, View.readCov_eq_canon']; rfl

/-- What the two stores of low-rank columns leave. -/
theorem histT : View.canon (kernelRun0_A.sl.HS1_2 c arg1 harg1 arg2 harg2 arg9 harg9 arg11 harg11 x0 x1 x8 x10) = tArr x0 x1 x8 x10 := by
  have h : (kernelRun0_A.sl.HS1_2 c arg1 harg1 arg2 harg2 arg9 harg9 arg11 harg11 x0 x1 x8 x10) =
    [⟨Rect.unit (s := S160x256) ![0, 128] S160x128.size inb_S160x256_S160x128_0_128, shapeCast S160x128 (tPart (View.readAt (Elt F) arg1.view (Rect.unit (s := S160x1) ![0, 0] S160x1.size inb_S160x1_S160x1_0_0).toLoadRect (harg1.unread x0))
        (lowB (View.readAt (Elt F) arg2.view (Rect.unit (s := S160x2560) ![0, 0] S160x2560.size inb_S160x2560_S160x2560_0_0).toLoadRect (harg2.unread x1)) (View.readAt (Elt F) arg11.view (Rect.unit (s := S112x2560) ![0, 0] S112x2560.size inb_S112x2560_S112x2560_0_0).toLoadRect (harg11.unread x10)))) shapeCasts_S160x128_S160x128⟩,
     ⟨Rect.unit (s := S160x256) ![0, 0] S160x128.size inb_S160x256_S160x128_0_0, shapeCast S160x128 (tPart (View.readAt (Elt F) arg1.view (Rect.unit (s := S160x1) ![0, 0] S160x1.size inb_S160x1_S160x1_0_0).toLoadRect (harg1.unread x0))
        (lowB (View.readAt (Elt F) arg2.view (Rect.unit (s := S160x2560) ![0, 0] S160x2560.size inb_S160x2560_S160x2560_0_0).toLoadRect (harg2.unread x1)) (View.readAt (Elt F) arg9.view (Rect.unit (s := S112x2560) ![0, 0] S112x2560.size inb_S112x2560_S112x2560_0_0).toLoadRect (harg9.unread x8)))) shapeCasts_S160x128_S160x128⟩] := rfl
  rw [h]
  simp only [View.readAt_eq_ld, Memref.IsWhole.read_unread, View.ld_unit_zero (S := S160x256) hz0, View.ld_unit_zero (S := S80x256) hz0, View.ld_unit_zero (S := S8x2560) hz0, View.ld_unit_zero (S := S160x112) hz0, View.ld_unit_zero (S := S112x256) hz0, View.ld_unit_zero (S := S160x1) hz0, View.ld_unit_zero (S := S112x2560) hz0, View.ld_unit_zero (S := S160x2560) hz0]
  rfl

/-- A load of the low-rank columns. -/
theorem readCov_t (B : Rect S160x256) : arg18.view.readCov (kernelRun0_A.sl.HS1_2 c arg1 harg1 arg2 harg2 arg9 harg9 arg11 harg11 x0 x1 x8 x10) B.toLoadRect = View.ld (tArr x0 x1 x8 x10) B := by
  rw [View.readCov_eq_canon', histT]

/-- The hidden block the two stores leave. -/
theorem hist15_A : View.canon (kernelRun0_A.sl.H15_2 c arg1 harg1 arg2 harg2 arg3 harg3 arg4 harg4 arg5 harg5 arg6 harg6 arg9 harg9 arg10 harg10 arg11 harg11 arg12 harg12 arg17 arg18 x0 x1 x2 x3 x4 x5 x8 x9 x10 x11) = (hArr x2 x3 x4 x5 x9 x11 (xpArr x1) (tArr x0 x1 x8 x10)) := by
  have h : (kernelRun0_A.sl.H15_2 c arg1 harg1 arg2 harg2 arg3 harg3 arg4 harg4 arg5 harg5 arg6 harg6 arg9 harg9 arg10 harg10 arg11 harg11 arg12 harg12 arg17 arg18 x0 x1 x2 x3 x4 x5 x8 x9 x10 x11) =
    [⟨Rect.unit (s := S160x256) ![0, 128] S160x128.size inb_S160x256_S160x128_0_128, (hblk 1 (arg18.view.readCov (kernelRun0_A.sl.HS1_2 c arg1 harg1 arg2 harg2 arg9 harg9 arg11 harg11 x0 x1 x8 x10) (Rect.unit (s := S160x256) ![0, 0] S160x256.size inb_S160x256_S160x256_0_0).toLoadRect) (View.readAt (Elt F) arg10.view (rL 1).toLoadRect (harg10.unread x9)) (View.readAt (Elt F) arg12.view (rL 1).toLoadRect (harg12.unread x11)) (fun k => (arg17.view.readCov (kernelRun0_A.sl.HS0_20 c arg2 harg2 x1) (rX k).toLoadRect))
      (fun k => (View.readAt (Elt F) arg3.view (rQ 1 k).toLoadRect (harg3.unread x2))) (fun k => (View.readAt (Elt F) arg4.view (rQ 1 k).toLoadRect (harg4.unread x3)))
      (View.readAt (Elt F) arg5.view (Rect.unit (s := S80x256) ![0, 0] S80x256.size inb_S80x256_S80x256_0_0).toLoadRect (harg5.unread x4)) (View.readAt (Elt F) arg6.view (Rect.unit (s := S80x256) ![0, 0] S80x256.size inb_S80x256_S80x256_0_0).toLoadRect (harg6.unread x5)))⟩,
     ⟨Rect.unit (s := S160x256) ![0, 0] S160x128.size inb_S160x256_S160x128_0_0, (hblk 0 (arg18.view.readCov (kernelRun0_A.sl.HS1_2 c arg1 harg1 arg2 harg2 arg9 harg9 arg11 harg11 x0 x1 x8 x10) (Rect.unit (s := S160x256) ![0, 0] S160x256.size inb_S160x256_S160x256_0_0).toLoadRect) (View.readAt (Elt F) arg10.view (rL 0).toLoadRect (harg10.unread x9)) (View.readAt (Elt F) arg12.view (rL 0).toLoadRect (harg12.unread x11)) (fun k => (arg17.view.readCov (kernelRun0_A.sl.HS0_20 c arg2 harg2 x1) (rX k).toLoadRect))
      (fun k => (View.readAt (Elt F) arg3.view (rQ 0 k).toLoadRect (harg3.unread x2))) (fun k => (View.readAt (Elt F) arg4.view (rQ 0 k).toLoadRect (harg4.unread x3)))
      (View.readAt (Elt F) arg5.view (Rect.unit (s := S80x256) ![0, 0] S80x256.size inb_S80x256_S80x256_0_0).toLoadRect (harg5.unread x4)) (View.readAt (Elt F) arg6.view (Rect.unit (s := S80x256) ![0, 0] S80x256.size inb_S80x256_S80x256_0_0).toLoadRect (harg6.unread x5)))⟩] := rfl
  rw [h]
  simp only [View.readAt_eq_ld, Memref.IsWhole.read_unread, View.ld_unit_zero (S := S160x256) hz0, View.ld_unit_zero (S := S80x256) hz0, View.ld_unit_zero (S := S8x2560) hz0, View.ld_unit_zero (S := S160x112) hz0, View.ld_unit_zero (S := S112x256) hz0, View.ld_unit_zero (S := S160x1) hz0, View.ld_unit_zero (S := S112x2560) hz0, View.ld_unit_zero (S := S160x2560) hz0]
  simp only [readCov_xp, readCov_t, View.ld_unit_zero (S := S160x256) hz0, View.ld_unit_zero (S := S80x256) hz0, View.ld_unit_zero (S := S8x2560) hz0, View.ld_unit_zero (S := S160x112) hz0, View.ld_unit_zero (S := S112x256) hz0, View.ld_unit_zero (S := S160x1) hz0, View.ld_unit_zero (S := S112x2560) hz0, View.ld_unit_zero (S := S160x2560) hz0]
  rfl

/-- The permuted hidden block. -/
theorem hidP_A : (kernelRun0_A.sl.r_766 c arg1 harg1 arg2 harg2 arg3 harg3 arg4 harg4 arg5 harg5 arg6 harg6 arg9 harg9 arg10 harg10 arg11 harg11 arg12 harg12 arg17 arg18 x0 x1 x2 x3 x4 x5 x8 x9 x10 x11) = hidP (hOf 0 x2 x3 x4 x5 x9 x11 (xpArr x1) (tArr x0 x1 x8 x10)) (hOf 1 x2 x3 x4 x5 x9 x11 (xpArr x1) (tArr x0 x1 x8 x10)) := by
  have h : (kernelRun0_A.sl.r_766 c arg1 harg1 arg2 harg2 arg3 harg3 arg4 harg4 arg5 harg5 arg6 harg6 arg9 harg9 arg10 harg10 arg11 harg11 arg12 harg12 arg17 arg18 x0 x1 x2 x3 x4 x5 x8 x9 x10 x11) = hidP (hblk 0 (arg18.view.readCov (kernelRun0_A.sl.HS1_2 c arg1 harg1 arg2 harg2 arg9 harg9 arg11 harg11 x0 x1 x8 x10) (Rect.unit (s := S160x256) ![0, 0] S160x256.size inb_S160x256_S160x256_0_0).toLoadRect) (View.readAt (Elt F) arg10.view (rL 0).toLoadRect (harg10.unread x9)) (View.readAt (Elt F) arg12.view (rL 0).toLoadRect (harg12.unread x11)) (fun k => (arg17.view.readCov (kernelRun0_A.sl.HS0_20 c arg2 harg2 x1) (rX k).toLoadRect))
      (fun k => (View.readAt (Elt F) arg3.view (rQ 0 k).toLoadRect (harg3.unread x2))) (fun k => (View.readAt (Elt F) arg4.view (rQ 0 k).toLoadRect (harg4.unread x3)))
      (View.readAt (Elt F) arg5.view (Rect.unit (s := S80x256) ![0, 0] S80x256.size inb_S80x256_S80x256_0_0).toLoadRect (harg5.unread x4)) (View.readAt (Elt F) arg6.view (Rect.unit (s := S80x256) ![0, 0] S80x256.size inb_S80x256_S80x256_0_0).toLoadRect (harg6.unread x5)))
    (hblk 1 (arg18.view.readCov (kernelRun0_A.sl.HS1_2 c arg1 harg1 arg2 harg2 arg9 harg9 arg11 harg11 x0 x1 x8 x10) (Rect.unit (s := S160x256) ![0, 0] S160x256.size inb_S160x256_S160x256_0_0).toLoadRect) (View.readAt (Elt F) arg10.view (rL 1).toLoadRect (harg10.unread x9)) (View.readAt (Elt F) arg12.view (rL 1).toLoadRect (harg12.unread x11)) (fun k => (arg17.view.readCov (kernelRun0_A.sl.HS0_20 c arg2 harg2 x1) (rX k).toLoadRect))
      (fun k => (View.readAt (Elt F) arg3.view (rQ 1 k).toLoadRect (harg3.unread x2))) (fun k => (View.readAt (Elt F) arg4.view (rQ 1 k).toLoadRect (harg4.unread x3)))
      (View.readAt (Elt F) arg5.view (Rect.unit (s := S80x256) ![0, 0] S80x256.size inb_S80x256_S80x256_0_0).toLoadRect (harg5.unread x4)) (View.readAt (Elt F) arg6.view (Rect.unit (s := S80x256) ![0, 0] S80x256.size inb_S80x256_S80x256_0_0).toLoadRect (harg6.unread x5))) := rfl
  rw [h]
  simp only [View.readAt_eq_ld, Memref.IsWhole.read_unread, View.ld_unit_zero (S := S160x256) hz0, View.ld_unit_zero (S := S80x256) hz0, View.ld_unit_zero (S := S8x2560) hz0, View.ld_unit_zero (S := S160x112) hz0, View.ld_unit_zero (S := S112x256) hz0, View.ld_unit_zero (S := S160x1) hz0, View.ld_unit_zero (S := S112x2560) hz0, View.ld_unit_zero (S := S160x2560) hz0]
  simp only [readCov_xp, readCov_t, View.ld_unit_zero (S := S160x256) hz0, View.ld_unit_zero (S := S80x256) hz0, View.ld_unit_zero (S := S8x2560) hz0, View.ld_unit_zero (S := S160x112) hz0, View.ld_unit_zero (S := S112x256) hz0, View.ld_unit_zero (S := S160x1) hz0, View.ld_unit_zero (S := S112x2560) hz0, View.ld_unit_zero (S := S160x2560) hz0]
  rfl

private theorem cut1 : (kernelRun0_A.sl.HS2_2 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) = ⟨rX 0, yAdd (arg19.view.readCov (kernelRun0_A.sl.HS2_1 (F := F)) (rX 0).toLoadRect) (kernelRun0_A.sl.r_766 c arg1 harg1 arg2 harg2 arg3 harg3 arg4 harg4 arg5 harg5 arg6 harg6 arg9 harg9 arg10 harg10 arg11 harg11 arg12 harg12 arg17 arg18 x0 x1 x2 x3 x4 x5 x8 x9 x10 x11)
      (dtile 0 0 (View.readAt (Elt F) arg7.view (rD 0 0).toLoadRect (harg7.unread x6)) (View.readAt (Elt F) arg8.view (Rect.unit (s := S8x2560) ![0, 0] S8x2560.size inb_S8x2560_S8x2560_0_0).toLoadRect (harg8.unread x7))) (dtile 0 1 (View.readAt (Elt F) arg7.view (rD 0 1).toLoadRect (harg7.unread x6)) (View.readAt (Elt F) arg8.view (Rect.unit (s := S8x2560) ![0, 0] S8x2560.size inb_S8x2560_S8x2560_0_0).toLoadRect (harg8.unread x7)))⟩ :: (kernelRun0_A.sl.HS2_1 (F := F)) := rfl

private theorem cut2 : (kernelRun0_A.sl.HS2_3 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) = ⟨rX 1, yAdd (arg19.view.readCov (kernelRun0_A.sl.HS2_2 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) (rX 1).toLoadRect) (kernelRun0_A.sl.r_766 c arg1 harg1 arg2 harg2 arg3 harg3 arg4 harg4 arg5 harg5 arg6 harg6 arg9 harg9 arg10 harg10 arg11 harg11 arg12 harg12 arg17 arg18 x0 x1 x2 x3 x4 x5 x8 x9 x10 x11)
      (dtile 1 0 (View.readAt (Elt F) arg7.view (rD 1 0).toLoadRect (harg7.unread x6)) (View.readAt (Elt F) arg8.view (Rect.unit (s := S8x2560) ![0, 0] S8x2560.size inb_S8x2560_S8x2560_0_0).toLoadRect (harg8.unread x7))) (dtile 1 1 (View.readAt (Elt F) arg7.view (rD 1 1).toLoadRect (harg7.unread x6)) (View.readAt (Elt F) arg8.view (Rect.unit (s := S8x2560) ![0, 0] S8x2560.size inb_S8x2560_S8x2560_0_0).toLoadRect (harg8.unread x7)))⟩ :: (kernelRun0_A.sl.HS2_2 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) := rfl

private theorem cut3 : (kernelRun0_A.sl.HS2_4 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) = ⟨rX 2, yAdd (arg19.view.readCov (kernelRun0_A.sl.HS2_3 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) (rX 2).toLoadRect) (kernelRun0_A.sl.r_766 c arg1 harg1 arg2 harg2 arg3 harg3 arg4 harg4 arg5 harg5 arg6 harg6 arg9 harg9 arg10 harg10 arg11 harg11 arg12 harg12 arg17 arg18 x0 x1 x2 x3 x4 x5 x8 x9 x10 x11)
      (dtile 2 0 (View.readAt (Elt F) arg7.view (rD 2 0).toLoadRect (harg7.unread x6)) (View.readAt (Elt F) arg8.view (Rect.unit (s := S8x2560) ![0, 0] S8x2560.size inb_S8x2560_S8x2560_0_0).toLoadRect (harg8.unread x7))) (dtile 2 1 (View.readAt (Elt F) arg7.view (rD 2 1).toLoadRect (harg7.unread x6)) (View.readAt (Elt F) arg8.view (Rect.unit (s := S8x2560) ![0, 0] S8x2560.size inb_S8x2560_S8x2560_0_0).toLoadRect (harg8.unread x7)))⟩ :: (kernelRun0_A.sl.HS2_3 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) := rfl

private theorem cut4 : (kernelRun0_A.sl.HS2_5 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) = ⟨rX 3, yAdd (arg19.view.readCov (kernelRun0_A.sl.HS2_4 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) (rX 3).toLoadRect) (kernelRun0_A.sl.r_766 c arg1 harg1 arg2 harg2 arg3 harg3 arg4 harg4 arg5 harg5 arg6 harg6 arg9 harg9 arg10 harg10 arg11 harg11 arg12 harg12 arg17 arg18 x0 x1 x2 x3 x4 x5 x8 x9 x10 x11)
      (dtile 3 0 (View.readAt (Elt F) arg7.view (rD 3 0).toLoadRect (harg7.unread x6)) (View.readAt (Elt F) arg8.view (Rect.unit (s := S8x2560) ![0, 0] S8x2560.size inb_S8x2560_S8x2560_0_0).toLoadRect (harg8.unread x7))) (dtile 3 1 (View.readAt (Elt F) arg7.view (rD 3 1).toLoadRect (harg7.unread x6)) (View.readAt (Elt F) arg8.view (Rect.unit (s := S8x2560) ![0, 0] S8x2560.size inb_S8x2560_S8x2560_0_0).toLoadRect (harg8.unread x7)))⟩ :: (kernelRun0_A.sl.HS2_4 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) := rfl

private theorem cut5 : (kernelRun0_A.sl.HS2_6 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) = ⟨rX 4, yAdd (arg19.view.readCov (kernelRun0_A.sl.HS2_5 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) (rX 4).toLoadRect) (kernelRun0_A.sl.r_766 c arg1 harg1 arg2 harg2 arg3 harg3 arg4 harg4 arg5 harg5 arg6 harg6 arg9 harg9 arg10 harg10 arg11 harg11 arg12 harg12 arg17 arg18 x0 x1 x2 x3 x4 x5 x8 x9 x10 x11)
      (dtile 4 0 (View.readAt (Elt F) arg7.view (rD 4 0).toLoadRect (harg7.unread x6)) (View.readAt (Elt F) arg8.view (Rect.unit (s := S8x2560) ![0, 0] S8x2560.size inb_S8x2560_S8x2560_0_0).toLoadRect (harg8.unread x7))) (dtile 4 1 (View.readAt (Elt F) arg7.view (rD 4 1).toLoadRect (harg7.unread x6)) (View.readAt (Elt F) arg8.view (Rect.unit (s := S8x2560) ![0, 0] S8x2560.size inb_S8x2560_S8x2560_0_0).toLoadRect (harg8.unread x7)))⟩ :: (kernelRun0_A.sl.HS2_5 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) := rfl

private theorem cut6 : (kernelRun0_A.sl.HS2_7 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) = ⟨rX 5, yAdd (arg19.view.readCov (kernelRun0_A.sl.HS2_6 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) (rX 5).toLoadRect) (kernelRun0_A.sl.r_766 c arg1 harg1 arg2 harg2 arg3 harg3 arg4 harg4 arg5 harg5 arg6 harg6 arg9 harg9 arg10 harg10 arg11 harg11 arg12 harg12 arg17 arg18 x0 x1 x2 x3 x4 x5 x8 x9 x10 x11)
      (dtile 5 0 (View.readAt (Elt F) arg7.view (rD 5 0).toLoadRect (harg7.unread x6)) (View.readAt (Elt F) arg8.view (Rect.unit (s := S8x2560) ![0, 0] S8x2560.size inb_S8x2560_S8x2560_0_0).toLoadRect (harg8.unread x7))) (dtile 5 1 (View.readAt (Elt F) arg7.view (rD 5 1).toLoadRect (harg7.unread x6)) (View.readAt (Elt F) arg8.view (Rect.unit (s := S8x2560) ![0, 0] S8x2560.size inb_S8x2560_S8x2560_0_0).toLoadRect (harg8.unread x7)))⟩ :: (kernelRun0_A.sl.HS2_6 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) := rfl

private theorem cut7 : (kernelRun0_A.sl.HS2_8 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) = ⟨rX 6, yAdd (arg19.view.readCov (kernelRun0_A.sl.HS2_7 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) (rX 6).toLoadRect) (kernelRun0_A.sl.r_766 c arg1 harg1 arg2 harg2 arg3 harg3 arg4 harg4 arg5 harg5 arg6 harg6 arg9 harg9 arg10 harg10 arg11 harg11 arg12 harg12 arg17 arg18 x0 x1 x2 x3 x4 x5 x8 x9 x10 x11)
      (dtile 6 0 (View.readAt (Elt F) arg7.view (rD 6 0).toLoadRect (harg7.unread x6)) (View.readAt (Elt F) arg8.view (Rect.unit (s := S8x2560) ![0, 0] S8x2560.size inb_S8x2560_S8x2560_0_0).toLoadRect (harg8.unread x7))) (dtile 6 1 (View.readAt (Elt F) arg7.view (rD 6 1).toLoadRect (harg7.unread x6)) (View.readAt (Elt F) arg8.view (Rect.unit (s := S8x2560) ![0, 0] S8x2560.size inb_S8x2560_S8x2560_0_0).toLoadRect (harg8.unread x7)))⟩ :: (kernelRun0_A.sl.HS2_7 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) := rfl

private theorem cut8 : (kernelRun0_A.sl.HS2_9 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) = ⟨rX 7, yAdd (arg19.view.readCov (kernelRun0_A.sl.HS2_8 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) (rX 7).toLoadRect) (kernelRun0_A.sl.r_766 c arg1 harg1 arg2 harg2 arg3 harg3 arg4 harg4 arg5 harg5 arg6 harg6 arg9 harg9 arg10 harg10 arg11 harg11 arg12 harg12 arg17 arg18 x0 x1 x2 x3 x4 x5 x8 x9 x10 x11)
      (dtile 7 0 (View.readAt (Elt F) arg7.view (rD 7 0).toLoadRect (harg7.unread x6)) (View.readAt (Elt F) arg8.view (Rect.unit (s := S8x2560) ![0, 0] S8x2560.size inb_S8x2560_S8x2560_0_0).toLoadRect (harg8.unread x7))) (dtile 7 1 (View.readAt (Elt F) arg7.view (rD 7 1).toLoadRect (harg7.unread x6)) (View.readAt (Elt F) arg8.view (Rect.unit (s := S8x2560) ![0, 0] S8x2560.size inb_S8x2560_S8x2560_0_0).toLoadRect (harg8.unread x7)))⟩ :: (kernelRun0_A.sl.HS2_8 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) := rfl

private theorem cut9 : (kernelRun0_A.sl.HS2_10 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) = ⟨rX 8, yAdd (arg19.view.readCov (kernelRun0_A.sl.HS2_9 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) (rX 8).toLoadRect) (kernelRun0_A.sl.r_766 c arg1 harg1 arg2 harg2 arg3 harg3 arg4 harg4 arg5 harg5 arg6 harg6 arg9 harg9 arg10 harg10 arg11 harg11 arg12 harg12 arg17 arg18 x0 x1 x2 x3 x4 x5 x8 x9 x10 x11)
      (dtile 8 0 (View.readAt (Elt F) arg7.view (rD 8 0).toLoadRect (harg7.unread x6)) (View.readAt (Elt F) arg8.view (Rect.unit (s := S8x2560) ![0, 0] S8x2560.size inb_S8x2560_S8x2560_0_0).toLoadRect (harg8.unread x7))) (dtile 8 1 (View.readAt (Elt F) arg7.view (rD 8 1).toLoadRect (harg7.unread x6)) (View.readAt (Elt F) arg8.view (Rect.unit (s := S8x2560) ![0, 0] S8x2560.size inb_S8x2560_S8x2560_0_0).toLoadRect (harg8.unread x7)))⟩ :: (kernelRun0_A.sl.HS2_9 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) := rfl

private theorem rd0 (B : Rect S160x2560) : arg19.view.readCov (kernelRun0_A.sl.HS2_1 (F := F)) B.toLoadRect = View.ld (yZero (F := F)) B := by
  have h : (kernelRun0_A.sl.HS2_1 (F := F)) = [⟨Rect.unit (s := S160x2560) ![0, 0] S160x2560.size inb_S160x2560_S160x2560_0_0, yZero⟩] := rfl
  rw [h, View.readCov_eq_canon', View.canon_unit_zero hz0]

private theorem skip1 (j : Fin 10) (h : (0 : Fin 10) ≠ j) :
    arg19.view.readCov (kernelRun0_A.sl.HS2_2 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) (rX j).toLoadRect = arg19.view.readCov (kernelRun0_A.sl.HS2_1 (F := F)) (rX j).toLoadRect :=
  (congrArg (fun L => arg19.view.readCov L (rX j).toLoadRect) (cut1 ..)).trans (readCov_skip _ _ _ h _ _)

private theorem skip2 (j : Fin 10) (h : (1 : Fin 10) ≠ j) :
    arg19.view.readCov (kernelRun0_A.sl.HS2_3 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) (rX j).toLoadRect = arg19.view.readCov (kernelRun0_A.sl.HS2_2 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) (rX j).toLoadRect :=
  (congrArg (fun L => arg19.view.readCov L (rX j).toLoadRect) (cut2 ..)).trans (readCov_skip _ _ _ h _ _)

private theorem skip3 (j : Fin 10) (h : (2 : Fin 10) ≠ j) :
    arg19.view.readCov (kernelRun0_A.sl.HS2_4 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) (rX j).toLoadRect = arg19.view.readCov (kernelRun0_A.sl.HS2_3 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) (rX j).toLoadRect :=
  (congrArg (fun L => arg19.view.readCov L (rX j).toLoadRect) (cut3 ..)).trans (readCov_skip _ _ _ h _ _)

private theorem skip4 (j : Fin 10) (h : (3 : Fin 10) ≠ j) :
    arg19.view.readCov (kernelRun0_A.sl.HS2_5 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) (rX j).toLoadRect = arg19.view.readCov (kernelRun0_A.sl.HS2_4 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) (rX j).toLoadRect :=
  (congrArg (fun L => arg19.view.readCov L (rX j).toLoadRect) (cut4 ..)).trans (readCov_skip _ _ _ h _ _)

private theorem skip5 (j : Fin 10) (h : (4 : Fin 10) ≠ j) :
    arg19.view.readCov (kernelRun0_A.sl.HS2_6 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) (rX j).toLoadRect = arg19.view.readCov (kernelRun0_A.sl.HS2_5 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) (rX j).toLoadRect :=
  (congrArg (fun L => arg19.view.readCov L (rX j).toLoadRect) (cut5 ..)).trans (readCov_skip _ _ _ h _ _)

private theorem skip6 (j : Fin 10) (h : (5 : Fin 10) ≠ j) :
    arg19.view.readCov (kernelRun0_A.sl.HS2_7 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) (rX j).toLoadRect = arg19.view.readCov (kernelRun0_A.sl.HS2_6 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) (rX j).toLoadRect :=
  (congrArg (fun L => arg19.view.readCov L (rX j).toLoadRect) (cut6 ..)).trans (readCov_skip _ _ _ h _ _)

private theorem skip7 (j : Fin 10) (h : (6 : Fin 10) ≠ j) :
    arg19.view.readCov (kernelRun0_A.sl.HS2_8 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) (rX j).toLoadRect = arg19.view.readCov (kernelRun0_A.sl.HS2_7 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) (rX j).toLoadRect :=
  (congrArg (fun L => arg19.view.readCov L (rX j).toLoadRect) (cut7 ..)).trans (readCov_skip _ _ _ h _ _)

private theorem skip8 (j : Fin 10) (h : (7 : Fin 10) ≠ j) :
    arg19.view.readCov (kernelRun0_A.sl.HS2_9 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) (rX j).toLoadRect = arg19.view.readCov (kernelRun0_A.sl.HS2_8 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) (rX j).toLoadRect :=
  (congrArg (fun L => arg19.view.readCov L (rX j).toLoadRect) (cut8 ..)).trans (readCov_skip _ _ _ h _ _)

private theorem skip9 (j : Fin 10) (h : (8 : Fin 10) ≠ j) :
    arg19.view.readCov (kernelRun0_A.sl.HS2_10 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) (rX j).toLoadRect = arg19.view.readCov (kernelRun0_A.sl.HS2_9 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) (rX j).toLoadRect :=
  (congrArg (fun L => arg19.view.readCov L (rX j).toLoadRect) (cut9 ..)).trans (readCov_skip _ _ _ h _ _)

private theorem rd1 : (arg19.view.readCov (kernelRun0_A.sl.HS2_2 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) (rX 1).toLoadRect) = View.ld (yZero (F := F)) (rX 1) := by
  refine Eq.trans (skip1 (j := 1) (h := by decide) ..) ?_
  exact rd0 ..

private theorem rd2 : (arg19.view.readCov (kernelRun0_A.sl.HS2_3 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) (rX 2).toLoadRect) = View.ld (yZero (F := F)) (rX 2) := by
  refine Eq.trans (skip2 (j := 2) (h := by decide) ..) ?_
  refine Eq.trans (skip1 (j := 2) (h := by decide) ..) ?_
  exact rd0 ..

private theorem rd3 : (arg19.view.readCov (kernelRun0_A.sl.HS2_4 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) (rX 3).toLoadRect) = View.ld (yZero (F := F)) (rX 3) := by
  refine Eq.trans (skip3 (j := 3) (h := by decide) ..) ?_
  refine Eq.trans (skip2 (j := 3) (h := by decide) ..) ?_
  refine Eq.trans (skip1 (j := 3) (h := by decide) ..) ?_
  exact rd0 ..

private theorem rd4 : (arg19.view.readCov (kernelRun0_A.sl.HS2_5 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) (rX 4).toLoadRect) = View.ld (yZero (F := F)) (rX 4) := by
  refine Eq.trans (skip4 (j := 4) (h := by decide) ..) ?_
  refine Eq.trans (skip3 (j := 4) (h := by decide) ..) ?_
  refine Eq.trans (skip2 (j := 4) (h := by decide) ..) ?_
  refine Eq.trans (skip1 (j := 4) (h := by decide) ..) ?_
  exact rd0 ..

private theorem rd5 : (arg19.view.readCov (kernelRun0_A.sl.HS2_6 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) (rX 5).toLoadRect) = View.ld (yZero (F := F)) (rX 5) := by
  refine Eq.trans (skip5 (j := 5) (h := by decide) ..) ?_
  refine Eq.trans (skip4 (j := 5) (h := by decide) ..) ?_
  refine Eq.trans (skip3 (j := 5) (h := by decide) ..) ?_
  refine Eq.trans (skip2 (j := 5) (h := by decide) ..) ?_
  refine Eq.trans (skip1 (j := 5) (h := by decide) ..) ?_
  exact rd0 ..

private theorem rd6 : (arg19.view.readCov (kernelRun0_A.sl.HS2_7 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) (rX 6).toLoadRect) = View.ld (yZero (F := F)) (rX 6) := by
  refine Eq.trans (skip6 (j := 6) (h := by decide) ..) ?_
  refine Eq.trans (skip5 (j := 6) (h := by decide) ..) ?_
  refine Eq.trans (skip4 (j := 6) (h := by decide) ..) ?_
  refine Eq.trans (skip3 (j := 6) (h := by decide) ..) ?_
  refine Eq.trans (skip2 (j := 6) (h := by decide) ..) ?_
  refine Eq.trans (skip1 (j := 6) (h := by decide) ..) ?_
  exact rd0 ..

private theorem rd7 : (arg19.view.readCov (kernelRun0_A.sl.HS2_8 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) (rX 7).toLoadRect) = View.ld (yZero (F := F)) (rX 7) := by
  refine Eq.trans (skip7 (j := 7) (h := by decide) ..) ?_
  refine Eq.trans (skip6 (j := 7) (h := by decide) ..) ?_
  refine Eq.trans (skip5 (j := 7) (h := by decide) ..) ?_
  refine Eq.trans (skip4 (j := 7) (h := by decide) ..) ?_
  refine Eq.trans (skip3 (j := 7) (h := by decide) ..) ?_
  refine Eq.trans (skip2 (j := 7) (h := by decide) ..) ?_
  refine Eq.trans (skip1 (j := 7) (h := by decide) ..) ?_
  exact rd0 ..

private theorem rd8 : (arg19.view.readCov (kernelRun0_A.sl.HS2_9 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) (rX 8).toLoadRect) = View.ld (yZero (F := F)) (rX 8) := by
  refine Eq.trans (skip8 (j := 8) (h := by decide) ..) ?_
  refine Eq.trans (skip7 (j := 8) (h := by decide) ..) ?_
  refine Eq.trans (skip6 (j := 8) (h := by decide) ..) ?_
  refine Eq.trans (skip5 (j := 8) (h := by decide) ..) ?_
  refine Eq.trans (skip4 (j := 8) (h := by decide) ..) ?_
  refine Eq.trans (skip3 (j := 8) (h := by decide) ..) ?_
  refine Eq.trans (skip2 (j := 8) (h := by decide) ..) ?_
  refine Eq.trans (skip1 (j := 8) (h := by decide) ..) ?_
  exact rd0 ..

private theorem rd9 : (arg19.view.readCov (kernelRun0_A.sl.HS2_10 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) (rX 9).toLoadRect) = View.ld (yZero (F := F)) (rX 9) := by
  refine Eq.trans (skip9 (j := 9) (h := by decide) ..) ?_
  refine Eq.trans (skip8 (j := 9) (h := by decide) ..) ?_
  refine Eq.trans (skip7 (j := 9) (h := by decide) ..) ?_
  refine Eq.trans (skip6 (j := 9) (h := by decide) ..) ?_
  refine Eq.trans (skip5 (j := 9) (h := by decide) ..) ?_
  refine Eq.trans (skip4 (j := 9) (h := by decide) ..) ?_
  refine Eq.trans (skip3 (j := 9) (h := by decide) ..) ?_
  refine Eq.trans (skip2 (j := 9) (h := by decide) ..) ?_
  refine Eq.trans (skip1 (j := 9) (h := by decide) ..) ?_
  exact rd0 ..

/-- The gathered output columns the ten stores leave. -/
theorem histY_A : View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13).2.2.2.2.1 = (yArr (hOf 0 x2 x3 x4 x5 x9 x11 (xpArr x1) (tArr x0 x1 x8 x10)) (hOf 1 x2 x3 x4 x5 x9 x11 (xpArr x1) (tArr x0 x1 x8 x10)) x6 x7 yZero) := by
  have h : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13).2.2.2.2.1 = yCons (kernelRun0_A.sl.r_766 c arg1 harg1 arg2 harg2 arg3 harg3 arg4 harg4 arg5 harg5 arg6 harg6 arg9 harg9 arg10 harg10 arg11 harg11 arg12 harg12 arg17 arg18 x0 x1 x2 x3 x4 x5 x8 x9 x10 x11) (fun d e => dtile d e (View.readAt (Elt F) arg7.view (rD d e).toLoadRect (harg7.unread x6)) (View.readAt (Elt F) arg8.view (Rect.unit (s := S8x2560) ![0, 0] S8x2560.size inb_S8x2560_S8x2560_0_0).toLoadRect (harg8.unread x7))) (kernelRun0_A.sl.HS2_1 (F := F)) (arg19.view.readCov (kernelRun0_A.sl.HS2_1 (F := F)) (rX 0).toLoadRect) (arg19.view.readCov (kernelRun0_A.sl.HS2_2 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) (rX 1).toLoadRect) (arg19.view.readCov (kernelRun0_A.sl.HS2_3 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) (rX 2).toLoadRect) (arg19.view.readCov (kernelRun0_A.sl.HS2_4 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) (rX 3).toLoadRect) (arg19.view.readCov (kernelRun0_A.sl.HS2_5 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) (rX 4).toLoadRect) (arg19.view.readCov (kernelRun0_A.sl.HS2_6 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) (rX 5).toLoadRect) (arg19.view.readCov (kernelRun0_A.sl.HS2_7 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) (rX 6).toLoadRect) (arg19.view.readCov (kernelRun0_A.sl.HS2_8 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) (rX 7).toLoadRect) (arg19.view.readCov (kernelRun0_A.sl.HS2_9 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) (rX 8).toLoadRect) (arg19.view.readCov (kernelRun0_A.sl.HS2_10 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) (rX 9).toLoadRect) := rfl
  have r0 : (arg19.view.readCov (kernelRun0_A.sl.HS2_1 (F := F)) (rX 0).toLoadRect) = View.ld (yZero (F := F)) (rX 0) := rd0 ..
  have r1 : (arg19.view.readCov (kernelRun0_A.sl.HS2_2 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) (rX 1).toLoadRect) = View.ld (yZero (F := F)) (rX 1) := rd1 ..
  have r2 : (arg19.view.readCov (kernelRun0_A.sl.HS2_3 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) (rX 2).toLoadRect) = View.ld (yZero (F := F)) (rX 2) := rd2 ..
  have r3 : (arg19.view.readCov (kernelRun0_A.sl.HS2_4 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) (rX 3).toLoadRect) = View.ld (yZero (F := F)) (rX 3) := rd3 ..
  have r4 : (arg19.view.readCov (kernelRun0_A.sl.HS2_5 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) (rX 4).toLoadRect) = View.ld (yZero (F := F)) (rX 4) := rd4 ..
  have r5 : (arg19.view.readCov (kernelRun0_A.sl.HS2_6 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) (rX 5).toLoadRect) = View.ld (yZero (F := F)) (rX 5) := rd5 ..
  have r6 : (arg19.view.readCov (kernelRun0_A.sl.HS2_7 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) (rX 6).toLoadRect) = View.ld (yZero (F := F)) (rX 6) := rd6 ..
  have r7 : (arg19.view.readCov (kernelRun0_A.sl.HS2_8 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) (rX 7).toLoadRect) = View.ld (yZero (F := F)) (rX 7) := rd7 ..
  have r8 : (arg19.view.readCov (kernelRun0_A.sl.HS2_9 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) (rX 8).toLoadRect) = View.ld (yZero (F := F)) (rX 8) := rd8 ..
  have r9 : (arg19.view.readCov (kernelRun0_A.sl.HS2_10 c arg1 harg1 arg2 harg2 arg3 harg3 arg4 harg4 arg5 harg5 arg6 harg6 arg7 harg7 arg8 harg8 arg9 harg9 arg10 harg10 arg11 harg11 arg12 harg12 arg17 arg18 arg19 x0 x1 x2 x3 x4 x5 x6 x7 x8 x9 x10 x11) (rX 9).toLoadRect) = View.ld (yZero (F := F)) (rX 9) := rd9 ..
  have e := congr (congr (congr (congr (congr (congr (congr (congr (congr (congrArg (yCons (kernelRun0_A.sl.r_766 c arg1 harg1 arg2 harg2 arg3 harg3 arg4 harg4 arg5 harg5 arg6 harg6 arg9 harg9 arg10 harg10 arg11 harg11 arg12 harg12 arg17 arg18 x0 x1 x2 x3 x4 x5 x8 x9 x10 x11) (fun d e => dtile d e (View.readAt (Elt F) arg7.view (rD d e).toLoadRect (harg7.unread x6)) (View.readAt (Elt F) arg8.view (Rect.unit (s := S8x2560) ![0, 0] S8x2560.size inb_S8x2560_S8x2560_0_0).toLoadRect (harg8.unread x7))) (kernelRun0_A.sl.HS2_1 (F := F))) r0) r1) r2) r3) r4) r5) r6) r7) r8) r9
  rw [h, e]
  rw [hidP_A]
  simp only [View.readAt_eq_ld, Memref.IsWhole.read_unread, View.ld_unit_zero (S := S160x256) hz0, View.ld_unit_zero (S := S80x256) hz0, View.ld_unit_zero (S := S8x2560) hz0, View.ld_unit_zero (S := S160x112) hz0, View.ld_unit_zero (S := S112x256) hz0, View.ld_unit_zero (S := S160x1) hz0, View.ld_unit_zero (S := S112x2560) hz0, View.ld_unit_zero (S := S160x2560) hz0]
  exact canon_yArr_append _ _ _ _ _ _

private theorem readTd0 : (arg20.view.readCov (kernelRun0_A.sl.HS3_1 (F := F)) (Rect.unit (s := S160x112) ![0, 0] S160x112.size inb_S160x112_S160x112_0_0).toLoadRect) = tZero := by
  have h : (kernelRun0_A.sl.HS3_1 (F := F)) = [⟨Rect.unit (s := S160x112) ![0, 0] S160x112.size inb_S160x112_S160x112_0_0, tZero⟩] := rfl
  rw [h, View.readCov_unit_zero _ hz0]

/-- The hidden block as it is read back. -/
theorem read15_A : (kernelRun0_A.sl.v5595 c arg1 harg1 arg2 harg2 arg3 harg3 arg4 harg4 arg5 harg5 arg6 harg6 arg9 harg9 arg10 harg10 arg11 harg11 arg12 harg12 arg16 arg17 arg18 x0 x1 x2 x3 x4 x5 x8 x9 x10 x11) = (hArr x2 x3 x4 x5 x9 x11 (xpArr x1) (tArr x0 x1 x8 x10)) := by
  have h : (kernelRun0_A.sl.v5595 c arg1 harg1 arg2 harg2 arg3 harg3 arg4 harg4 arg5 harg5 arg6 harg6 arg9 harg9 arg10 harg10 arg11 harg11 arg12 harg12 arg16 arg17 arg18 x0 x1 x2 x3 x4 x5 x8 x9 x10 x11) = arg16.view.readCov (kernelRun0_A.sl.H15_2 c arg1 harg1 arg2 harg2 arg3 harg3 arg4 harg4 arg5 harg5 arg6 harg6 arg9 harg9 arg10 harg10 arg11 harg11 arg12 harg12 arg17 arg18 x0 x1 x2 x3 x4 x5 x8 x9 x10 x11) (Rect.unit (s := S160x256) ![0, 0] S160x256.size inb_S160x256_S160x256_0_0).toLoadRect := rfl
  rw [h, View.readCov_eq_canon', hist15_A]
  exact View.ld_unit_zero (S := S160x256) hz0 _ _

/-- The down product's low-rank columns. -/
theorem histTd_A : View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13).2.2.2.2.2.1 = (tdAdd tZero (hArr x2 x3 x4 x5 x9 x11 (xpArr x1) (tArr x0 x1 x8 x10)) x12) := by
  have h : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13).2.2.2.2.2.1 =
    [⟨(Rect.unit (s := S160x112) ![0, 0] S160x112.size inb_S160x112_S160x112_0_0), tdAdd (arg20.view.readCov (kernelRun0_A.sl.HS3_1 (F := F)) (Rect.unit (s := S160x112) ![0, 0] S160x112.size inb_S160x112_S160x112_0_0).toLoadRect) (kernelRun0_A.sl.v5595 c arg1 harg1 arg2 harg2 arg3 harg3 arg4 harg4 arg5 harg5 arg6 harg6 arg9 harg9 arg10 harg10 arg11 harg11 arg12 harg12 arg16 arg17 arg18 x0 x1 x2 x3 x4 x5 x8 x9 x10 x11) (View.readAt (Elt F) arg13.view (Rect.unit (s := S112x256) ![0, 0] S112x256.size inb_S112x256_S112x256_0_0).toLoadRect (harg13.unread x12))⟩] ++ (kernelRun0_A.sl.HS3_1 (F := F)) := rfl
  rw [h, read15_A, readTd0]
  rw [List.singleton_append, View.canon_cons_unit_zero hz0]

  simp only [View.readAt_eq_ld, Memref.IsWhole.read_unread, View.ld_unit_zero (S := S160x256) hz0, View.ld_unit_zero (S := S80x256) hz0, View.ld_unit_zero (S := S8x2560) hz0, View.ld_unit_zero (S := S160x112) hz0, View.ld_unit_zero (S := S112x256) hz0, View.ld_unit_zero (S := S160x1) hz0, View.ld_unit_zero (S := S112x2560) hz0, View.ld_unit_zero (S := S160x2560) hz0]

/-- What the case leaves in this buffer. -/
theorem out0_A_15_val : out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 = (hArr x2 x3 x4 x5 x9 x11 (xpArr x1) (tArr x0 x1 x8 x10)) := by
  unfold out0_A_15
  rw [View.read_writes_junk_eq_canon]
  exact hist15_A ..

/-- What the case leaves in this buffer. -/
theorem sout0_A_2_val : sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 = (yArr (hOf 0 x2 x3 x4 x5 x9 x11 (xpArr x1) (tArr x0 x1 x8 x10)) (hOf 1 x2 x3 x4 x5 x9 x11 (xpArr x1) (tArr x0 x1 x8 x10)) x6 x7 yZero) := by
  unfold sout0_A_2
  rw [View.read_writes_junk_eq_canon]
  exact histY_A ..

/-- What the case leaves in this buffer. -/
theorem sout0_A_3_val : sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 = (tdAdd tZero (hArr x2 x3 x4 x5 x9 x11 (xpArr x1) (tArr x0 x1 x8 x10)) x12) := by
  unfold sout0_A_3
  rw [View.read_writes_junk_eq_canon]
  exact histTd_A ..

/-- What the case leaves in this buffer. -/
theorem sout0_A_0_val : sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 = xpArr x1 := by
  unfold sout0_A_0
  rw [View.read_writes_junk_eq_canon]
  exact congrArg View.canon (histXP ..)

/-- What the case leaves in this buffer. -/
theorem sout0_A_1_val : sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 = tArr x0 x1 x8 x10 := by
  unfold sout0_A_1
  rw [View.read_writes_junk_eq_canon]
  exact histT ..

end Cert.Q4
end
-- ==== Proof.StepB.lean ====
module

public import proofs.«01_k».proof.Proof.Blocks
public import proofs.«01_k».proof.Proof.Gen.KernelIdeal.Frame

@[expose] public section

set_option maxRecDepth 16384

noncomputable section

namespace Cert.Q4

open Idealize.ShloMosaic Idealize.ShloMosaic.TcCoe Cert.KernelIdeal Cert.KernelIdeal.Gen

variable {F : FTy → Type} [FloatOps F]
variable (c : Dev nD) (i : grid0.Coords) (arg1 : Memref sig .tc .vmem S160x1 .i32) (harg1 : arg1.IsWhole) (arg2 : Memref sig .tc .vmem S160x2560 .bf16) (harg2 : arg2.IsWhole) (arg3 : Memref sig .tc .vmem S256x1280 .i8) (harg3 : arg3.IsWhole) (arg4 : Memref sig .tc .vmem S256x1280 .i8) (harg4 : arg4.IsWhole) (arg5 : Memref sig .tc .vmem S80x256 .i16) (harg5 : arg5.IsWhole) (arg6 : Memref sig .tc .vmem S80x256 .i16) (harg6 : arg6.IsWhole) (arg7 : Memref sig .tc .vmem S2560x128 .i8) (harg7 : arg7.IsWhole) (arg8 : Memref sig .tc .vmem S8x2560 .i16) (harg8 : arg8.IsWhole) (arg9 : Memref sig .tc .vmem S112x2560 .bf16) (harg9 : arg9.IsWhole) (arg10 : Memref sig .tc .vmem S112x256 .bf16) (harg10 : arg10.IsWhole) (arg11 : Memref sig .tc .vmem S112x2560 .bf16) (harg11 : arg11.IsWhole) (arg12 : Memref sig .tc .vmem S112x256 .bf16) (harg12 : arg12.IsWhole) (arg13 : Memref sig .tc .vmem S112x256 .bf16) (harg13 : arg13.IsWhole) (arg14 : Memref sig .tc .vmem S112x2560 .bf16) (harg14 : arg14.IsWhole) (arg15 : Memref sig .tc .vmem S160x2560 .bf16) (harg15 : arg15.IsWhole) (arg16 : Memref sig .tc .vmem S160x256 .bf16) (harg16 : arg16.IsWhole) (arg17 : Memref sig .tc .vmem S160x2560 .bf16) (harg17 : arg17.IsWhole) (arg18 : Memref sig .tc .vmem S160x256 .bf16) (harg18 : arg18.IsWhole) (arg19 : Memref sig .tc .vmem S160x2560 .f32) (harg19 : arg19.IsWhole) (arg20 : Memref sig .tc .vmem S160x112 .f32) (harg20 : arg20.IsWhole) (hc0 : ¬cond0_0 i) (hc1 : ¬cond0_1 i) (x0 : Vec F S160x1 .i32) (x1 : Vec F S160x2560 .bf16) (x2 : Vec F S256x1280 .i8) (x3 : Vec F S256x1280 .i8) (x4 : Vec F S80x256 .i16) (x5 : Vec F S80x256 .i16) (x6 : Vec F S2560x128 .i8) (x7 : Vec F S8x2560 .i16) (x8 : Vec F S112x2560 .bf16) (x9 : Vec F S112x256 .bf16) (x10 : Vec F S112x2560 .bf16) (x11 : Vec F S112x256 .bf16) (x12 : Vec F S112x256 .bf16) (x13 : Vec F S112x2560 .bf16) (xs0 : Vec F S160x2560 .bf16) (xs1 : Vec F S160x256 .bf16) (xs2 : Vec F S160x2560 .f32) (xs3 : Vec F S160x112 .f32)

private theorem hz0 : (![0, 0] : Fin 2 → Nat) = fun _ => 0 := funext fun a => by fin_cases a <;> rfl

/-- The hidden block the two stores leave. -/
theorem hist15_B : View.canon (kernelRun0_B.sl.H15_2 c arg3 harg3 arg4 harg4 arg5 harg5 arg6 harg6 arg10 harg10 arg12 harg12 arg17 harg17 arg18 harg18 x2 x3 x4 x5 x9 x11 xs0 xs1) = (hArr x2 x3 x4 x5 x9 x11 xs0 xs1) := by
  have h : (kernelRun0_B.sl.H15_2 c arg3 harg3 arg4 harg4 arg5 harg5 arg6 harg6 arg10 harg10 arg12 harg12 arg17 harg17 arg18 harg18 x2 x3 x4 x5 x9 x11 xs0 xs1) =
    [⟨Rect.unit (s := S160x256) ![0, 128] S160x128.size inb_S160x256_S160x128_0_128, (hblk 1 (View.readAt (Elt F) arg18.view (Rect.unit (s := S160x256) ![0, 0] S160x256.size inb_S160x256_S160x256_0_0).toLoadRect (harg18.unread xs1)) (View.readAt (Elt F) arg10.view (rL 1).toLoadRect (harg10.unread x9)) (View.readAt (Elt F) arg12.view (rL 1).toLoadRect (harg12.unread x11)) (fun k => (View.readAt (Elt F) arg17.view (rX k).toLoadRect (harg17.unread xs0)))
      (fun k => (View.readAt (Elt F) arg3.view (rQ 1 k).toLoadRect (harg3.unread x2))) (fun k => (View.readAt (Elt F) arg4.view (rQ 1 k).toLoadRect (harg4.unread x3)))
      (View.readAt (Elt F) arg5.view (Rect.unit (s := S80x256) ![0, 0] S80x256.size inb_S80x256_S80x256_0_0).toLoadRect (harg5.unread x4)) (View.readAt (Elt F) arg6.view (Rect.unit (s := S80x256) ![0, 0] S80x256.size inb_S80x256_S80x256_0_0).toLoadRect (harg6.unread x5)))⟩,
     ⟨Rect.unit (s := S160x256) ![0, 0] S160x128.size inb_S160x256_S160x128_0_0, (hblk 0 (View.readAt (Elt F) arg18.view (Rect.unit (s := S160x256) ![0, 0] S160x256.size inb_S160x256_S160x256_0_0).toLoadRect (harg18.unread xs1)) (View.readAt (Elt F) arg10.view (rL 0).toLoadRect (harg10.unread x9)) (View.readAt (Elt F) arg12.view (rL 0).toLoadRect (harg12.unread x11)) (fun k => (View.readAt (Elt F) arg17.view (rX k).toLoadRect (harg17.unread xs0)))
      (fun k => (View.readAt (Elt F) arg3.view (rQ 0 k).toLoadRect (harg3.unread x2))) (fun k => (View.readAt (Elt F) arg4.view (rQ 0 k).toLoadRect (harg4.unread x3)))
      (View.readAt (Elt F) arg5.view (Rect.unit (s := S80x256) ![0, 0] S80x256.size inb_S80x256_S80x256_0_0).toLoadRect (harg5.unread x4)) (View.readAt (Elt F) arg6.view (Rect.unit (s := S80x256) ![0, 0] S80x256.size inb_S80x256_S80x256_0_0).toLoadRect (harg6.unread x5)))⟩] := rfl
  rw [h]
  simp only [View.readAt_eq_ld, Memref.IsWhole.read_unread, View.ld_unit_zero (S := S160x256) hz0, View.ld_unit_zero (S := S80x256) hz0, View.ld_unit_zero (S := S8x2560) hz0, View.ld_unit_zero (S := S160x112) hz0, View.ld_unit_zero (S := S112x256) hz0, View.ld_unit_zero (S := S160x1) hz0, View.ld_unit_zero (S := S112x2560) hz0, View.ld_unit_zero (S := S160x2560) hz0]
  rfl

/-- The permuted hidden block. -/
theorem hidP_B : (kernelRun0_B.sl.r_757 c arg3 harg3 arg4 harg4 arg5 harg5 arg6 harg6 arg10 harg10 arg12 harg12 arg17 harg17 arg18 harg18 x2 x3 x4 x5 x9 x11 xs0 xs1) = hidP (hOf 0 x2 x3 x4 x5 x9 x11 xs0 xs1) (hOf 1 x2 x3 x4 x5 x9 x11 xs0 xs1) := by
  have h : (kernelRun0_B.sl.r_757 c arg3 harg3 arg4 harg4 arg5 harg5 arg6 harg6 arg10 harg10 arg12 harg12 arg17 harg17 arg18 harg18 x2 x3 x4 x5 x9 x11 xs0 xs1) = hidP (hblk 0 (View.readAt (Elt F) arg18.view (Rect.unit (s := S160x256) ![0, 0] S160x256.size inb_S160x256_S160x256_0_0).toLoadRect (harg18.unread xs1)) (View.readAt (Elt F) arg10.view (rL 0).toLoadRect (harg10.unread x9)) (View.readAt (Elt F) arg12.view (rL 0).toLoadRect (harg12.unread x11)) (fun k => (View.readAt (Elt F) arg17.view (rX k).toLoadRect (harg17.unread xs0)))
      (fun k => (View.readAt (Elt F) arg3.view (rQ 0 k).toLoadRect (harg3.unread x2))) (fun k => (View.readAt (Elt F) arg4.view (rQ 0 k).toLoadRect (harg4.unread x3)))
      (View.readAt (Elt F) arg5.view (Rect.unit (s := S80x256) ![0, 0] S80x256.size inb_S80x256_S80x256_0_0).toLoadRect (harg5.unread x4)) (View.readAt (Elt F) arg6.view (Rect.unit (s := S80x256) ![0, 0] S80x256.size inb_S80x256_S80x256_0_0).toLoadRect (harg6.unread x5)))
    (hblk 1 (View.readAt (Elt F) arg18.view (Rect.unit (s := S160x256) ![0, 0] S160x256.size inb_S160x256_S160x256_0_0).toLoadRect (harg18.unread xs1)) (View.readAt (Elt F) arg10.view (rL 1).toLoadRect (harg10.unread x9)) (View.readAt (Elt F) arg12.view (rL 1).toLoadRect (harg12.unread x11)) (fun k => (View.readAt (Elt F) arg17.view (rX k).toLoadRect (harg17.unread xs0)))
      (fun k => (View.readAt (Elt F) arg3.view (rQ 1 k).toLoadRect (harg3.unread x2))) (fun k => (View.readAt (Elt F) arg4.view (rQ 1 k).toLoadRect (harg4.unread x3)))
      (View.readAt (Elt F) arg5.view (Rect.unit (s := S80x256) ![0, 0] S80x256.size inb_S80x256_S80x256_0_0).toLoadRect (harg5.unread x4)) (View.readAt (Elt F) arg6.view (Rect.unit (s := S80x256) ![0, 0] S80x256.size inb_S80x256_S80x256_0_0).toLoadRect (harg6.unread x5))) := rfl
  rw [h]
  simp only [View.readAt_eq_ld, Memref.IsWhole.read_unread, View.ld_unit_zero (S := S160x256) hz0, View.ld_unit_zero (S := S80x256) hz0, View.ld_unit_zero (S := S8x2560) hz0, View.ld_unit_zero (S := S160x112) hz0, View.ld_unit_zero (S := S112x256) hz0, View.ld_unit_zero (S := S160x1) hz0, View.ld_unit_zero (S := S112x2560) hz0, View.ld_unit_zero (S := S160x2560) hz0]
  rfl

/-- The gathered output columns the ten stores leave. -/
theorem histY_B : View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 xs0 xs1 xs2 xs3).2.2.2.2.1 = (yArr (hOf 0 x2 x3 x4 x5 x9 x11 xs0 xs1) (hOf 1 x2 x3 x4 x5 x9 x11 xs0 xs1) x6 x7 xs2) := by
  have h : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 xs0 xs1 xs2 xs3).2.2.2.2.1 =
    [⟨rX 9, yAdd (View.readAt (Elt F) arg19.view (rX 9).toLoadRect (harg19.unread xs2)) (kernelRun0_B.sl.r_757 c arg3 harg3 arg4 harg4 arg5 harg5 arg6 harg6 arg10 harg10 arg12 harg12 arg17 harg17 arg18 harg18 x2 x3 x4 x5 x9 x11 xs0 xs1)
      (dtile 9 0 (View.readAt (Elt F) arg7.view (rD 9 0).toLoadRect (harg7.unread x6)) (View.readAt (Elt F) arg8.view (Rect.unit (s := S8x2560) ![0, 0] S8x2560.size inb_S8x2560_S8x2560_0_0).toLoadRect (harg8.unread x7))) (dtile 9 1 (View.readAt (Elt F) arg7.view (rD 9 1).toLoadRect (harg7.unread x6)) (View.readAt (Elt F) arg8.view (Rect.unit (s := S8x2560) ![0, 0] S8x2560.size inb_S8x2560_S8x2560_0_0).toLoadRect (harg8.unread x7)))⟩,
     ⟨rX 8, yAdd (View.readAt (Elt F) arg19.view (rX 8).toLoadRect (harg19.unread xs2)) (kernelRun0_B.sl.r_757 c arg3 harg3 arg4 harg4 arg5 harg5 arg6 harg6 arg10 harg10 arg12 harg12 arg17 harg17 arg18 harg18 x2 x3 x4 x5 x9 x11 xs0 xs1)
      (dtile 8 0 (View.readAt (Elt F) arg7.view (rD 8 0).toLoadRect (harg7.unread x6)) (View.readAt (Elt F) arg8.view (Rect.unit (s := S8x2560) ![0, 0] S8x2560.size inb_S8x2560_S8x2560_0_0).toLoadRect (harg8.unread x7))) (dtile 8 1 (View.readAt (Elt F) arg7.view (rD 8 1).toLoadRect (harg7.unread x6)) (View.readAt (Elt F) arg8.view (Rect.unit (s := S8x2560) ![0, 0] S8x2560.size inb_S8x2560_S8x2560_0_0).toLoadRect (harg8.unread x7)))⟩,
     ⟨rX 7, yAdd (View.readAt (Elt F) arg19.view (rX 7).toLoadRect (harg19.unread xs2)) (kernelRun0_B.sl.r_757 c arg3 harg3 arg4 harg4 arg5 harg5 arg6 harg6 arg10 harg10 arg12 harg12 arg17 harg17 arg18 harg18 x2 x3 x4 x5 x9 x11 xs0 xs1)
      (dtile 7 0 (View.readAt (Elt F) arg7.view (rD 7 0).toLoadRect (harg7.unread x6)) (View.readAt (Elt F) arg8.view (Rect.unit (s := S8x2560) ![0, 0] S8x2560.size inb_S8x2560_S8x2560_0_0).toLoadRect (harg8.unread x7))) (dtile 7 1 (View.readAt (Elt F) arg7.view (rD 7 1).toLoadRect (harg7.unread x6)) (View.readAt (Elt F) arg8.view (Rect.unit (s := S8x2560) ![0, 0] S8x2560.size inb_S8x2560_S8x2560_0_0).toLoadRect (harg8.unread x7)))⟩,
     ⟨rX 6, yAdd (View.readAt (Elt F) arg19.view (rX 6).toLoadRect (harg19.unread xs2)) (kernelRun0_B.sl.r_757 c arg3 harg3 arg4 harg4 arg5 harg5 arg6 harg6 arg10 harg10 arg12 harg12 arg17 harg17 arg18 harg18 x2 x3 x4 x5 x9 x11 xs0 xs1)
      (dtile 6 0 (View.readAt (Elt F) arg7.view (rD 6 0).toLoadRect (harg7.unread x6)) (View.readAt (Elt F) arg8.view (Rect.unit (s := S8x2560) ![0, 0] S8x2560.size inb_S8x2560_S8x2560_0_0).toLoadRect (harg8.unread x7))) (dtile 6 1 (View.readAt (Elt F) arg7.view (rD 6 1).toLoadRect (harg7.unread x6)) (View.readAt (Elt F) arg8.view (Rect.unit (s := S8x2560) ![0, 0] S8x2560.size inb_S8x2560_S8x2560_0_0).toLoadRect (harg8.unread x7)))⟩,
     ⟨rX 5, yAdd (View.readAt (Elt F) arg19.view (rX 5).toLoadRect (harg19.unread xs2)) (kernelRun0_B.sl.r_757 c arg3 harg3 arg4 harg4 arg5 harg5 arg6 harg6 arg10 harg10 arg12 harg12 arg17 harg17 arg18 harg18 x2 x3 x4 x5 x9 x11 xs0 xs1)
      (dtile 5 0 (View.readAt (Elt F) arg7.view (rD 5 0).toLoadRect (harg7.unread x6)) (View.readAt (Elt F) arg8.view (Rect.unit (s := S8x2560) ![0, 0] S8x2560.size inb_S8x2560_S8x2560_0_0).toLoadRect (harg8.unread x7))) (dtile 5 1 (View.readAt (Elt F) arg7.view (rD 5 1).toLoadRect (harg7.unread x6)) (View.readAt (Elt F) arg8.view (Rect.unit (s := S8x2560) ![0, 0] S8x2560.size inb_S8x2560_S8x2560_0_0).toLoadRect (harg8.unread x7)))⟩,
     ⟨rX 4, yAdd (View.readAt (Elt F) arg19.view (rX 4).toLoadRect (harg19.unread xs2)) (kernelRun0_B.sl.r_757 c arg3 harg3 arg4 harg4 arg5 harg5 arg6 harg6 arg10 harg10 arg12 harg12 arg17 harg17 arg18 harg18 x2 x3 x4 x5 x9 x11 xs0 xs1)
      (dtile 4 0 (View.readAt (Elt F) arg7.view (rD 4 0).toLoadRect (harg7.unread x6)) (View.readAt (Elt F) arg8.view (Rect.unit (s := S8x2560) ![0, 0] S8x2560.size inb_S8x2560_S8x2560_0_0).toLoadRect (harg8.unread x7))) (dtile 4 1 (View.readAt (Elt F) arg7.view (rD 4 1).toLoadRect (harg7.unread x6)) (View.readAt (Elt F) arg8.view (Rect.unit (s := S8x2560) ![0, 0] S8x2560.size inb_S8x2560_S8x2560_0_0).toLoadRect (harg8.unread x7)))⟩,
     ⟨rX 3, yAdd (View.readAt (Elt F) arg19.view (rX 3).toLoadRect (harg19.unread xs2)) (kernelRun0_B.sl.r_757 c arg3 harg3 arg4 harg4 arg5 harg5 arg6 harg6 arg10 harg10 arg12 harg12 arg17 harg17 arg18 harg18 x2 x3 x4 x5 x9 x11 xs0 xs1)
      (dtile 3 0 (View.readAt (Elt F) arg7.view (rD 3 0).toLoadRect (harg7.unread x6)) (View.readAt (Elt F) arg8.view (Rect.unit (s := S8x2560) ![0, 0] S8x2560.size inb_S8x2560_S8x2560_0_0).toLoadRect (harg8.unread x7))) (dtile 3 1 (View.readAt (Elt F) arg7.view (rD 3 1).toLoadRect (harg7.unread x6)) (View.readAt (Elt F) arg8.view (Rect.unit (s := S8x2560) ![0, 0] S8x2560.size inb_S8x2560_S8x2560_0_0).toLoadRect (harg8.unread x7)))⟩,
     ⟨rX 2, yAdd (View.readAt (Elt F) arg19.view (rX 2).toLoadRect (harg19.unread xs2)) (kernelRun0_B.sl.r_757 c arg3 harg3 arg4 harg4 arg5 harg5 arg6 harg6 arg10 harg10 arg12 harg12 arg17 harg17 arg18 harg18 x2 x3 x4 x5 x9 x11 xs0 xs1)
      (dtile 2 0 (View.readAt (Elt F) arg7.view (rD 2 0).toLoadRect (harg7.unread x6)) (View.readAt (Elt F) arg8.view (Rect.unit (s := S8x2560) ![0, 0] S8x2560.size inb_S8x2560_S8x2560_0_0).toLoadRect (harg8.unread x7))) (dtile 2 1 (View.readAt (Elt F) arg7.view (rD 2 1).toLoadRect (harg7.unread x6)) (View.readAt (Elt F) arg8.view (Rect.unit (s := S8x2560) ![0, 0] S8x2560.size inb_S8x2560_S8x2560_0_0).toLoadRect (harg8.unread x7)))⟩,
     ⟨rX 1, yAdd (View.readAt (Elt F) arg19.view (rX 1).toLoadRect (harg19.unread xs2)) (kernelRun0_B.sl.r_757 c arg3 harg3 arg4 harg4 arg5 harg5 arg6 harg6 arg10 harg10 arg12 harg12 arg17 harg17 arg18 harg18 x2 x3 x4 x5 x9 x11 xs0 xs1)
      (dtile 1 0 (View.readAt (Elt F) arg7.view (rD 1 0).toLoadRect (harg7.unread x6)) (View.readAt (Elt F) arg8.view (Rect.unit (s := S8x2560) ![0, 0] S8x2560.size inb_S8x2560_S8x2560_0_0).toLoadRect (harg8.unread x7))) (dtile 1 1 (View.readAt (Elt F) arg7.view (rD 1 1).toLoadRect (harg7.unread x6)) (View.readAt (Elt F) arg8.view (Rect.unit (s := S8x2560) ![0, 0] S8x2560.size inb_S8x2560_S8x2560_0_0).toLoadRect (harg8.unread x7)))⟩,
     ⟨rX 0, yAdd (View.readAt (Elt F) arg19.view (rX 0).toLoadRect (harg19.unread xs2)) (kernelRun0_B.sl.r_757 c arg3 harg3 arg4 harg4 arg5 harg5 arg6 harg6 arg10 harg10 arg12 harg12 arg17 harg17 arg18 harg18 x2 x3 x4 x5 x9 x11 xs0 xs1)
      (dtile 0 0 (View.readAt (Elt F) arg7.view (rD 0 0).toLoadRect (harg7.unread x6)) (View.readAt (Elt F) arg8.view (Rect.unit (s := S8x2560) ![0, 0] S8x2560.size inb_S8x2560_S8x2560_0_0).toLoadRect (harg8.unread x7))) (dtile 0 1 (View.readAt (Elt F) arg7.view (rD 0 1).toLoadRect (harg7.unread x6)) (View.readAt (Elt F) arg8.view (Rect.unit (s := S8x2560) ![0, 0] S8x2560.size inb_S8x2560_S8x2560_0_0).toLoadRect (harg8.unread x7)))⟩] := rfl
  rw [h, hidP_B]
  simp only [View.readAt_eq_ld, Memref.IsWhole.read_unread, View.ld_unit_zero (S := S160x256) hz0, View.ld_unit_zero (S := S80x256) hz0, View.ld_unit_zero (S := S8x2560) hz0, View.ld_unit_zero (S := S160x112) hz0, View.ld_unit_zero (S := S112x256) hz0, View.ld_unit_zero (S := S160x1) hz0, View.ld_unit_zero (S := S112x2560) hz0, View.ld_unit_zero (S := S160x2560) hz0]
  rfl

/-- The hidden block as it is read back. -/
theorem read15_B : (kernelRun0_B.sl.v5595 c arg3 harg3 arg4 harg4 arg5 harg5 arg6 harg6 arg10 harg10 arg12 harg12 arg16 arg17 harg17 arg18 harg18 x2 x3 x4 x5 x9 x11 xs0 xs1) = (hArr x2 x3 x4 x5 x9 x11 xs0 xs1) := by
  have h : (kernelRun0_B.sl.v5595 c arg3 harg3 arg4 harg4 arg5 harg5 arg6 harg6 arg10 harg10 arg12 harg12 arg16 arg17 harg17 arg18 harg18 x2 x3 x4 x5 x9 x11 xs0 xs1) = arg16.view.readCov (kernelRun0_B.sl.H15_2 c arg3 harg3 arg4 harg4 arg5 harg5 arg6 harg6 arg10 harg10 arg12 harg12 arg17 harg17 arg18 harg18 x2 x3 x4 x5 x9 x11 xs0 xs1) (Rect.unit (s := S160x256) ![0, 0] S160x256.size inb_S160x256_S160x256_0_0).toLoadRect := rfl
  rw [h, View.readCov_eq_canon', hist15_B]
  exact View.ld_unit_zero (S := S160x256) hz0 _ _

/-- The down product's low-rank columns. -/
theorem histTd_B : View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 xs0 xs1 xs2 xs3).2.2.2.2.2.1 = (tdAdd xs3 (hArr x2 x3 x4 x5 x9 x11 xs0 xs1) x12) := by
  have h : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 xs0 xs1 xs2 xs3).2.2.2.2.2.1 =
    [⟨(Rect.unit (s := S160x112) ![0, 0] S160x112.size inb_S160x112_S160x112_0_0), tdAdd (View.readAt (Elt F) arg20.view (Rect.unit (s := S160x112) ![0, 0] S160x112.size inb_S160x112_S160x112_0_0).toLoadRect (harg20.unread xs3)) (kernelRun0_B.sl.v5595 c arg3 harg3 arg4 harg4 arg5 harg5 arg6 harg6 arg10 harg10 arg12 harg12 arg16 arg17 harg17 arg18 harg18 x2 x3 x4 x5 x9 x11 xs0 xs1) (View.readAt (Elt F) arg13.view (Rect.unit (s := S112x256) ![0, 0] S112x256.size inb_S112x256_S112x256_0_0).toLoadRect (harg13.unread x12))⟩] := rfl
  rw [h, read15_B]

  rw [View.canon_unit_zero hz0]
  simp only [View.readAt_eq_ld, Memref.IsWhole.read_unread, View.ld_unit_zero (S := S160x256) hz0, View.ld_unit_zero (S := S80x256) hz0, View.ld_unit_zero (S := S8x2560) hz0, View.ld_unit_zero (S := S160x112) hz0, View.ld_unit_zero (S := S112x256) hz0, View.ld_unit_zero (S := S160x1) hz0, View.ld_unit_zero (S := S112x2560) hz0, View.ld_unit_zero (S := S160x2560) hz0]

/-- What the case leaves in this buffer. -/
theorem out0_B_15_val : out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 xs0 xs1 xs2 xs3 = (hArr x2 x3 x4 x5 x9 x11 xs0 xs1) := by
  unfold out0_B_15
  rw [View.read_writes_junk_eq_canon]
  exact hist15_B ..

/-- What the case leaves in this buffer. -/
theorem sout0_B_2_val : sout0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 xs0 xs1 xs2 xs3 = (yArr (hOf 0 x2 x3 x4 x5 x9 x11 xs0 xs1) (hOf 1 x2 x3 x4 x5 x9 x11 xs0 xs1) x6 x7 xs2) := by
  unfold sout0_B_2
  rw [View.read_writes_junk_eq_canon]
  exact histY_B ..

/-- What the case leaves in this buffer. -/
theorem sout0_B_3_val : sout0_B_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 xs0 xs1 xs2 xs3 = (tdAdd xs3 (hArr x2 x3 x4 x5 x9 x11 xs0 xs1) x12) := by
  unfold sout0_B_3
  rw [View.read_writes_junk_eq_canon]
  exact histTd_B ..

end Cert.Q4
end
-- ==== Proof.StepC.lean ====
module

public import proofs.«01_k».proof.Proof.Blocks
public import proofs.«01_k».proof.Proof.Gen.KernelIdeal.Frame

@[expose] public section

set_option maxRecDepth 16384

noncomputable section

namespace Cert.Q4

open Idealize.ShloMosaic Idealize.ShloMosaic.TcCoe Cert.KernelIdeal Cert.KernelIdeal.Gen

variable {F : FTy → Type} [FloatOps F]
variable (c : Dev nD) (i : grid0.Coords) (arg1 : Memref sig .tc .vmem S160x1 .i32) (harg1 : arg1.IsWhole) (arg2 : Memref sig .tc .vmem S160x2560 .bf16) (harg2 : arg2.IsWhole) (arg3 : Memref sig .tc .vmem S256x1280 .i8) (harg3 : arg3.IsWhole) (arg4 : Memref sig .tc .vmem S256x1280 .i8) (harg4 : arg4.IsWhole) (arg5 : Memref sig .tc .vmem S80x256 .i16) (harg5 : arg5.IsWhole) (arg6 : Memref sig .tc .vmem S80x256 .i16) (harg6 : arg6.IsWhole) (arg7 : Memref sig .tc .vmem S2560x128 .i8) (harg7 : arg7.IsWhole) (arg8 : Memref sig .tc .vmem S8x2560 .i16) (harg8 : arg8.IsWhole) (arg9 : Memref sig .tc .vmem S112x2560 .bf16) (harg9 : arg9.IsWhole) (arg10 : Memref sig .tc .vmem S112x256 .bf16) (harg10 : arg10.IsWhole) (arg11 : Memref sig .tc .vmem S112x2560 .bf16) (harg11 : arg11.IsWhole) (arg12 : Memref sig .tc .vmem S112x256 .bf16) (harg12 : arg12.IsWhole) (arg13 : Memref sig .tc .vmem S112x256 .bf16) (harg13 : arg13.IsWhole) (arg14 : Memref sig .tc .vmem S112x2560 .bf16) (harg14 : arg14.IsWhole) (arg15 : Memref sig .tc .vmem S160x2560 .bf16) (harg15 : arg15.IsWhole) (arg16 : Memref sig .tc .vmem S160x256 .bf16) (harg16 : arg16.IsWhole) (arg17 : Memref sig .tc .vmem S160x2560 .bf16) (harg17 : arg17.IsWhole) (arg18 : Memref sig .tc .vmem S160x256 .bf16) (harg18 : arg18.IsWhole) (arg19 : Memref sig .tc .vmem S160x2560 .f32) (harg19 : arg19.IsWhole) (arg20 : Memref sig .tc .vmem S160x112 .f32) (harg20 : arg20.IsWhole) (hc0 : ¬cond0_0 i) (hc1 : cond0_1 i) (x0 : Vec F S160x1 .i32) (x1 : Vec F S160x2560 .bf16) (x2 : Vec F S256x1280 .i8) (x3 : Vec F S256x1280 .i8) (x4 : Vec F S80x256 .i16) (x5 : Vec F S80x256 .i16) (x6 : Vec F S2560x128 .i8) (x7 : Vec F S8x2560 .i16) (x8 : Vec F S112x2560 .bf16) (x9 : Vec F S112x256 .bf16) (x10 : Vec F S112x2560 .bf16) (x11 : Vec F S112x256 .bf16) (x12 : Vec F S112x256 .bf16) (x13 : Vec F S112x2560 .bf16) (xs0 : Vec F S160x2560 .bf16) (xs1 : Vec F S160x256 .bf16) (xs2 : Vec F S160x2560 .f32) (xs3 : Vec F S160x112 .f32)

private theorem hz0 : (![0, 0] : Fin 2 → Nat) = fun _ => 0 := funext fun a => by fin_cases a <;> rfl

/-- The hidden block the two stores leave. -/
theorem hist15_C : View.canon (kernelRun0_C.sl.H15_2 c arg3 harg3 arg4 harg4 arg5 harg5 arg6 harg6 arg10 harg10 arg12 harg12 arg17 harg17 arg18 harg18 x2 x3 x4 x5 x9 x11 xs0 xs1) = (hArr x2 x3 x4 x5 x9 x11 xs0 xs1) := by
  have h : (kernelRun0_C.sl.H15_2 c arg3 harg3 arg4 harg4 arg5 harg5 arg6 harg6 arg10 harg10 arg12 harg12 arg17 harg17 arg18 harg18 x2 x3 x4 x5 x9 x11 xs0 xs1) =
    [⟨Rect.unit (s := S160x256) ![0, 128] S160x128.size inb_S160x256_S160x128_0_128, (hblk 1 (View.readAt (Elt F) arg18.view (Rect.unit (s := S160x256) ![0, 0] S160x256.size inb_S160x256_S160x256_0_0).toLoadRect (harg18.unread xs1)) (View.readAt (Elt F) arg10.view (rL 1).toLoadRect (harg10.unread x9)) (View.readAt (Elt F) arg12.view (rL 1).toLoadRect (harg12.unread x11)) (fun k => (View.readAt (Elt F) arg17.view (rX k).toLoadRect (harg17.unread xs0)))
      (fun k => (View.readAt (Elt F) arg3.view (rQ 1 k).toLoadRect (harg3.unread x2))) (fun k => (View.readAt (Elt F) arg4.view (rQ 1 k).toLoadRect (harg4.unread x3)))
      (View.readAt (Elt F) arg5.view (Rect.unit (s := S80x256) ![0, 0] S80x256.size inb_S80x256_S80x256_0_0).toLoadRect (harg5.unread x4)) (View.readAt (Elt F) arg6.view (Rect.unit (s := S80x256) ![0, 0] S80x256.size inb_S80x256_S80x256_0_0).toLoadRect (harg6.unread x5)))⟩,
     ⟨Rect.unit (s := S160x256) ![0, 0] S160x128.size inb_S160x256_S160x128_0_0, (hblk 0 (View.readAt (Elt F) arg18.view (Rect.unit (s := S160x256) ![0, 0] S160x256.size inb_S160x256_S160x256_0_0).toLoadRect (harg18.unread xs1)) (View.readAt (Elt F) arg10.view (rL 0).toLoadRect (harg10.unread x9)) (View.readAt (Elt F) arg12.view (rL 0).toLoadRect (harg12.unread x11)) (fun k => (View.readAt (Elt F) arg17.view (rX k).toLoadRect (harg17.unread xs0)))
      (fun k => (View.readAt (Elt F) arg3.view (rQ 0 k).toLoadRect (harg3.unread x2))) (fun k => (View.readAt (Elt F) arg4.view (rQ 0 k).toLoadRect (harg4.unread x3)))
      (View.readAt (Elt F) arg5.view (Rect.unit (s := S80x256) ![0, 0] S80x256.size inb_S80x256_S80x256_0_0).toLoadRect (harg5.unread x4)) (View.readAt (Elt F) arg6.view (Rect.unit (s := S80x256) ![0, 0] S80x256.size inb_S80x256_S80x256_0_0).toLoadRect (harg6.unread x5)))⟩] := rfl
  rw [h]
  simp only [View.readAt_eq_ld, Memref.IsWhole.read_unread, View.ld_unit_zero (S := S160x256) hz0, View.ld_unit_zero (S := S80x256) hz0, View.ld_unit_zero (S := S8x2560) hz0, View.ld_unit_zero (S := S160x112) hz0, View.ld_unit_zero (S := S112x256) hz0, View.ld_unit_zero (S := S160x1) hz0, View.ld_unit_zero (S := S112x2560) hz0, View.ld_unit_zero (S := S160x2560) hz0]
  rfl

/-- The permuted hidden block. -/
theorem hidP_C : (kernelRun0_C.sl.r_757 c arg3 harg3 arg4 harg4 arg5 harg5 arg6 harg6 arg10 harg10 arg12 harg12 arg17 harg17 arg18 harg18 x2 x3 x4 x5 x9 x11 xs0 xs1) = hidP (hOf 0 x2 x3 x4 x5 x9 x11 xs0 xs1) (hOf 1 x2 x3 x4 x5 x9 x11 xs0 xs1) := by
  have h : (kernelRun0_C.sl.r_757 c arg3 harg3 arg4 harg4 arg5 harg5 arg6 harg6 arg10 harg10 arg12 harg12 arg17 harg17 arg18 harg18 x2 x3 x4 x5 x9 x11 xs0 xs1) = hidP (hblk 0 (View.readAt (Elt F) arg18.view (Rect.unit (s := S160x256) ![0, 0] S160x256.size inb_S160x256_S160x256_0_0).toLoadRect (harg18.unread xs1)) (View.readAt (Elt F) arg10.view (rL 0).toLoadRect (harg10.unread x9)) (View.readAt (Elt F) arg12.view (rL 0).toLoadRect (harg12.unread x11)) (fun k => (View.readAt (Elt F) arg17.view (rX k).toLoadRect (harg17.unread xs0)))
      (fun k => (View.readAt (Elt F) arg3.view (rQ 0 k).toLoadRect (harg3.unread x2))) (fun k => (View.readAt (Elt F) arg4.view (rQ 0 k).toLoadRect (harg4.unread x3)))
      (View.readAt (Elt F) arg5.view (Rect.unit (s := S80x256) ![0, 0] S80x256.size inb_S80x256_S80x256_0_0).toLoadRect (harg5.unread x4)) (View.readAt (Elt F) arg6.view (Rect.unit (s := S80x256) ![0, 0] S80x256.size inb_S80x256_S80x256_0_0).toLoadRect (harg6.unread x5)))
    (hblk 1 (View.readAt (Elt F) arg18.view (Rect.unit (s := S160x256) ![0, 0] S160x256.size inb_S160x256_S160x256_0_0).toLoadRect (harg18.unread xs1)) (View.readAt (Elt F) arg10.view (rL 1).toLoadRect (harg10.unread x9)) (View.readAt (Elt F) arg12.view (rL 1).toLoadRect (harg12.unread x11)) (fun k => (View.readAt (Elt F) arg17.view (rX k).toLoadRect (harg17.unread xs0)))
      (fun k => (View.readAt (Elt F) arg3.view (rQ 1 k).toLoadRect (harg3.unread x2))) (fun k => (View.readAt (Elt F) arg4.view (rQ 1 k).toLoadRect (harg4.unread x3)))
      (View.readAt (Elt F) arg5.view (Rect.unit (s := S80x256) ![0, 0] S80x256.size inb_S80x256_S80x256_0_0).toLoadRect (harg5.unread x4)) (View.readAt (Elt F) arg6.view (Rect.unit (s := S80x256) ![0, 0] S80x256.size inb_S80x256_S80x256_0_0).toLoadRect (harg6.unread x5))) := rfl
  rw [h]
  simp only [View.readAt_eq_ld, Memref.IsWhole.read_unread, View.ld_unit_zero (S := S160x256) hz0, View.ld_unit_zero (S := S80x256) hz0, View.ld_unit_zero (S := S8x2560) hz0, View.ld_unit_zero (S := S160x112) hz0, View.ld_unit_zero (S := S112x256) hz0, View.ld_unit_zero (S := S160x1) hz0, View.ld_unit_zero (S := S112x2560) hz0, View.ld_unit_zero (S := S160x2560) hz0]
  rfl

/-- The gathered output columns the ten stores leave. -/
theorem histY_C : View.canon (kernelRun0_C.sl.HS2_10 c arg3 harg3 arg4 harg4 arg5 harg5 arg6 harg6 arg7 harg7 arg8 harg8 arg10 harg10 arg12 harg12 arg17 harg17 arg18 harg18 arg19 harg19 x2 x3 x4 x5 x6 x7 x9 x11 xs0 xs1 xs2) = (yArr (hOf 0 x2 x3 x4 x5 x9 x11 xs0 xs1) (hOf 1 x2 x3 x4 x5 x9 x11 xs0 xs1) x6 x7 xs2) := by
  have h : (kernelRun0_C.sl.HS2_10 c arg3 harg3 arg4 harg4 arg5 harg5 arg6 harg6 arg7 harg7 arg8 harg8 arg10 harg10 arg12 harg12 arg17 harg17 arg18 harg18 arg19 harg19 x2 x3 x4 x5 x6 x7 x9 x11 xs0 xs1 xs2) =
    [⟨rX 9, yAdd (View.readAt (Elt F) arg19.view (rX 9).toLoadRect (harg19.unread xs2)) (kernelRun0_C.sl.r_757 c arg3 harg3 arg4 harg4 arg5 harg5 arg6 harg6 arg10 harg10 arg12 harg12 arg17 harg17 arg18 harg18 x2 x3 x4 x5 x9 x11 xs0 xs1)
      (dtile 9 0 (View.readAt (Elt F) arg7.view (rD 9 0).toLoadRect (harg7.unread x6)) (View.readAt (Elt F) arg8.view (Rect.unit (s := S8x2560) ![0, 0] S8x2560.size inb_S8x2560_S8x2560_0_0).toLoadRect (harg8.unread x7))) (dtile 9 1 (View.readAt (Elt F) arg7.view (rD 9 1).toLoadRect (harg7.unread x6)) (View.readAt (Elt F) arg8.view (Rect.unit (s := S8x2560) ![0, 0] S8x2560.size inb_S8x2560_S8x2560_0_0).toLoadRect (harg8.unread x7)))⟩,
     ⟨rX 8, yAdd (View.readAt (Elt F) arg19.view (rX 8).toLoadRect (harg19.unread xs2)) (kernelRun0_C.sl.r_757 c arg3 harg3 arg4 harg4 arg5 harg5 arg6 harg6 arg10 harg10 arg12 harg12 arg17 harg17 arg18 harg18 x2 x3 x4 x5 x9 x11 xs0 xs1)
      (dtile 8 0 (View.readAt (Elt F) arg7.view (rD 8 0).toLoadRect (harg7.unread x6)) (View.readAt (Elt F) arg8.view (Rect.unit (s := S8x2560) ![0, 0] S8x2560.size inb_S8x2560_S8x2560_0_0).toLoadRect (harg8.unread x7))) (dtile 8 1 (View.readAt (Elt F) arg7.view (rD 8 1).toLoadRect (harg7.unread x6)) (View.readAt (Elt F) arg8.view (Rect.unit (s := S8x2560) ![0, 0] S8x2560.size inb_S8x2560_S8x2560_0_0).toLoadRect (harg8.unread x7)))⟩,
     ⟨rX 7, yAdd (View.readAt (Elt F) arg19.view (rX 7).toLoadRect (harg19.unread xs2)) (kernelRun0_C.sl.r_757 c arg3 harg3 arg4 harg4 arg5 harg5 arg6 harg6 arg10 harg10 arg12 harg12 arg17 harg17 arg18 harg18 x2 x3 x4 x5 x9 x11 xs0 xs1)
      (dtile 7 0 (View.readAt (Elt F) arg7.view (rD 7 0).toLoadRect (harg7.unread x6)) (View.readAt (Elt F) arg8.view (Rect.unit (s := S8x2560) ![0, 0] S8x2560.size inb_S8x2560_S8x2560_0_0).toLoadRect (harg8.unread x7))) (dtile 7 1 (View.readAt (Elt F) arg7.view (rD 7 1).toLoadRect (harg7.unread x6)) (View.readAt (Elt F) arg8.view (Rect.unit (s := S8x2560) ![0, 0] S8x2560.size inb_S8x2560_S8x2560_0_0).toLoadRect (harg8.unread x7)))⟩,
     ⟨rX 6, yAdd (View.readAt (Elt F) arg19.view (rX 6).toLoadRect (harg19.unread xs2)) (kernelRun0_C.sl.r_757 c arg3 harg3 arg4 harg4 arg5 harg5 arg6 harg6 arg10 harg10 arg12 harg12 arg17 harg17 arg18 harg18 x2 x3 x4 x5 x9 x11 xs0 xs1)
      (dtile 6 0 (View.readAt (Elt F) arg7.view (rD 6 0).toLoadRect (harg7.unread x6)) (View.readAt (Elt F) arg8.view (Rect.unit (s := S8x2560) ![0, 0] S8x2560.size inb_S8x2560_S8x2560_0_0).toLoadRect (harg8.unread x7))) (dtile 6 1 (View.readAt (Elt F) arg7.view (rD 6 1).toLoadRect (harg7.unread x6)) (View.readAt (Elt F) arg8.view (Rect.unit (s := S8x2560) ![0, 0] S8x2560.size inb_S8x2560_S8x2560_0_0).toLoadRect (harg8.unread x7)))⟩,
     ⟨rX 5, yAdd (View.readAt (Elt F) arg19.view (rX 5).toLoadRect (harg19.unread xs2)) (kernelRun0_C.sl.r_757 c arg3 harg3 arg4 harg4 arg5 harg5 arg6 harg6 arg10 harg10 arg12 harg12 arg17 harg17 arg18 harg18 x2 x3 x4 x5 x9 x11 xs0 xs1)
      (dtile 5 0 (View.readAt (Elt F) arg7.view (rD 5 0).toLoadRect (harg7.unread x6)) (View.readAt (Elt F) arg8.view (Rect.unit (s := S8x2560) ![0, 0] S8x2560.size inb_S8x2560_S8x2560_0_0).toLoadRect (harg8.unread x7))) (dtile 5 1 (View.readAt (Elt F) arg7.view (rD 5 1).toLoadRect (harg7.unread x6)) (View.readAt (Elt F) arg8.view (Rect.unit (s := S8x2560) ![0, 0] S8x2560.size inb_S8x2560_S8x2560_0_0).toLoadRect (harg8.unread x7)))⟩,
     ⟨rX 4, yAdd (View.readAt (Elt F) arg19.view (rX 4).toLoadRect (harg19.unread xs2)) (kernelRun0_C.sl.r_757 c arg3 harg3 arg4 harg4 arg5 harg5 arg6 harg6 arg10 harg10 arg12 harg12 arg17 harg17 arg18 harg18 x2 x3 x4 x5 x9 x11 xs0 xs1)
      (dtile 4 0 (View.readAt (Elt F) arg7.view (rD 4 0).toLoadRect (harg7.unread x6)) (View.readAt (Elt F) arg8.view (Rect.unit (s := S8x2560) ![0, 0] S8x2560.size inb_S8x2560_S8x2560_0_0).toLoadRect (harg8.unread x7))) (dtile 4 1 (View.readAt (Elt F) arg7.view (rD 4 1).toLoadRect (harg7.unread x6)) (View.readAt (Elt F) arg8.view (Rect.unit (s := S8x2560) ![0, 0] S8x2560.size inb_S8x2560_S8x2560_0_0).toLoadRect (harg8.unread x7)))⟩,
     ⟨rX 3, yAdd (View.readAt (Elt F) arg19.view (rX 3).toLoadRect (harg19.unread xs2)) (kernelRun0_C.sl.r_757 c arg3 harg3 arg4 harg4 arg5 harg5 arg6 harg6 arg10 harg10 arg12 harg12 arg17 harg17 arg18 harg18 x2 x3 x4 x5 x9 x11 xs0 xs1)
      (dtile 3 0 (View.readAt (Elt F) arg7.view (rD 3 0).toLoadRect (harg7.unread x6)) (View.readAt (Elt F) arg8.view (Rect.unit (s := S8x2560) ![0, 0] S8x2560.size inb_S8x2560_S8x2560_0_0).toLoadRect (harg8.unread x7))) (dtile 3 1 (View.readAt (Elt F) arg7.view (rD 3 1).toLoadRect (harg7.unread x6)) (View.readAt (Elt F) arg8.view (Rect.unit (s := S8x2560) ![0, 0] S8x2560.size inb_S8x2560_S8x2560_0_0).toLoadRect (harg8.unread x7)))⟩,
     ⟨rX 2, yAdd (View.readAt (Elt F) arg19.view (rX 2).toLoadRect (harg19.unread xs2)) (kernelRun0_C.sl.r_757 c arg3 harg3 arg4 harg4 arg5 harg5 arg6 harg6 arg10 harg10 arg12 harg12 arg17 harg17 arg18 harg18 x2 x3 x4 x5 x9 x11 xs0 xs1)
      (dtile 2 0 (View.readAt (Elt F) arg7.view (rD 2 0).toLoadRect (harg7.unread x6)) (View.readAt (Elt F) arg8.view (Rect.unit (s := S8x2560) ![0, 0] S8x2560.size inb_S8x2560_S8x2560_0_0).toLoadRect (harg8.unread x7))) (dtile 2 1 (View.readAt (Elt F) arg7.view (rD 2 1).toLoadRect (harg7.unread x6)) (View.readAt (Elt F) arg8.view (Rect.unit (s := S8x2560) ![0, 0] S8x2560.size inb_S8x2560_S8x2560_0_0).toLoadRect (harg8.unread x7)))⟩,
     ⟨rX 1, yAdd (View.readAt (Elt F) arg19.view (rX 1).toLoadRect (harg19.unread xs2)) (kernelRun0_C.sl.r_757 c arg3 harg3 arg4 harg4 arg5 harg5 arg6 harg6 arg10 harg10 arg12 harg12 arg17 harg17 arg18 harg18 x2 x3 x4 x5 x9 x11 xs0 xs1)
      (dtile 1 0 (View.readAt (Elt F) arg7.view (rD 1 0).toLoadRect (harg7.unread x6)) (View.readAt (Elt F) arg8.view (Rect.unit (s := S8x2560) ![0, 0] S8x2560.size inb_S8x2560_S8x2560_0_0).toLoadRect (harg8.unread x7))) (dtile 1 1 (View.readAt (Elt F) arg7.view (rD 1 1).toLoadRect (harg7.unread x6)) (View.readAt (Elt F) arg8.view (Rect.unit (s := S8x2560) ![0, 0] S8x2560.size inb_S8x2560_S8x2560_0_0).toLoadRect (harg8.unread x7)))⟩,
     ⟨rX 0, yAdd (View.readAt (Elt F) arg19.view (rX 0).toLoadRect (harg19.unread xs2)) (kernelRun0_C.sl.r_757 c arg3 harg3 arg4 harg4 arg5 harg5 arg6 harg6 arg10 harg10 arg12 harg12 arg17 harg17 arg18 harg18 x2 x3 x4 x5 x9 x11 xs0 xs1)
      (dtile 0 0 (View.readAt (Elt F) arg7.view (rD 0 0).toLoadRect (harg7.unread x6)) (View.readAt (Elt F) arg8.view (Rect.unit (s := S8x2560) ![0, 0] S8x2560.size inb_S8x2560_S8x2560_0_0).toLoadRect (harg8.unread x7))) (dtile 0 1 (View.readAt (Elt F) arg7.view (rD 0 1).toLoadRect (harg7.unread x6)) (View.readAt (Elt F) arg8.view (Rect.unit (s := S8x2560) ![0, 0] S8x2560.size inb_S8x2560_S8x2560_0_0).toLoadRect (harg8.unread x7)))⟩] := rfl
  rw [h, hidP_C]
  simp only [View.readAt_eq_ld, Memref.IsWhole.read_unread, View.ld_unit_zero (S := S160x256) hz0, View.ld_unit_zero (S := S80x256) hz0, View.ld_unit_zero (S := S8x2560) hz0, View.ld_unit_zero (S := S160x112) hz0, View.ld_unit_zero (S := S112x256) hz0, View.ld_unit_zero (S := S160x1) hz0, View.ld_unit_zero (S := S112x2560) hz0, View.ld_unit_zero (S := S160x2560) hz0]
  rfl

/-- The hidden block as it is read back. -/
theorem read15_C : (kernelRun0_C.sl.v5595 c arg3 harg3 arg4 harg4 arg5 harg5 arg6 harg6 arg10 harg10 arg12 harg12 arg16 arg17 harg17 arg18 harg18 x2 x3 x4 x5 x9 x11 xs0 xs1) = (hArr x2 x3 x4 x5 x9 x11 xs0 xs1) := by
  have h : (kernelRun0_C.sl.v5595 c arg3 harg3 arg4 harg4 arg5 harg5 arg6 harg6 arg10 harg10 arg12 harg12 arg16 arg17 harg17 arg18 harg18 x2 x3 x4 x5 x9 x11 xs0 xs1) = arg16.view.readCov (kernelRun0_C.sl.H15_2 c arg3 harg3 arg4 harg4 arg5 harg5 arg6 harg6 arg10 harg10 arg12 harg12 arg17 harg17 arg18 harg18 x2 x3 x4 x5 x9 x11 xs0 xs1) (Rect.unit (s := S160x256) ![0, 0] S160x256.size inb_S160x256_S160x256_0_0).toLoadRect := rfl
  rw [h, View.readCov_eq_canon', hist15_C]
  exact View.ld_unit_zero (S := S160x256) hz0 _ _

/-- The down product's low-rank columns. -/
theorem histTd_C : View.canon (kernelRun0_C.sl.HS3_1 c arg3 harg3 arg4 harg4 arg5 harg5 arg6 harg6 arg10 harg10 arg12 harg12 arg13 harg13 arg16 arg17 harg17 arg18 harg18 arg20 harg20 x2 x3 x4 x5 x9 x11 x12 xs0 xs1 xs3) = (tdAdd xs3 (hArr x2 x3 x4 x5 x9 x11 xs0 xs1) x12) := by
  have h : (kernelRun0_C.sl.HS3_1 c arg3 harg3 arg4 harg4 arg5 harg5 arg6 harg6 arg10 harg10 arg12 harg12 arg13 harg13 arg16 arg17 harg17 arg18 harg18 arg20 harg20 x2 x3 x4 x5 x9 x11 x12 xs0 xs1 xs3) =
    [⟨(Rect.unit (s := S160x112) ![0, 0] S160x112.size inb_S160x112_S160x112_0_0), tdAdd (View.readAt (Elt F) arg20.view (Rect.unit (s := S160x112) ![0, 0] S160x112.size inb_S160x112_S160x112_0_0).toLoadRect (harg20.unread xs3)) (kernelRun0_C.sl.v5595 c arg3 harg3 arg4 harg4 arg5 harg5 arg6 harg6 arg10 harg10 arg12 harg12 arg16 arg17 harg17 arg18 harg18 x2 x3 x4 x5 x9 x11 xs0 xs1) (View.readAt (Elt F) arg13.view (Rect.unit (s := S112x256) ![0, 0] S112x256.size inb_S112x256_S112x256_0_0).toLoadRect (harg13.unread x12))⟩] := rfl
  rw [h, read15_C]

  rw [View.canon_unit_zero hz0]
  simp only [View.readAt_eq_ld, Memref.IsWhole.read_unread, View.ld_unit_zero (S := S160x256) hz0, View.ld_unit_zero (S := S80x256) hz0, View.ld_unit_zero (S := S8x2560) hz0, View.ld_unit_zero (S := S160x112) hz0, View.ld_unit_zero (S := S112x256) hz0, View.ld_unit_zero (S := S160x1) hz0, View.ld_unit_zero (S := S112x2560) hz0, View.ld_unit_zero (S := S160x2560) hz0]

private theorem readY_C  : (kernelRun0_C.sl.v8481 c arg3 harg3 arg4 harg4 arg5 harg5 arg6 harg6 arg7 harg7 arg8 harg8 arg10 harg10 arg12 harg12 arg17 harg17 arg18 harg18 arg19 harg19 x2 x3 x4 x5 x6 x7 x9 x11 xs0 xs1 xs2) = (yArr (hOf 0 x2 x3 x4 x5 x9 x11 xs0 xs1) (hOf 1 x2 x3 x4 x5 x9 x11 xs0 xs1) x6 x7 xs2) := by
  have h : (kernelRun0_C.sl.v8481 c arg3 harg3 arg4 harg4 arg5 harg5 arg6 harg6 arg7 harg7 arg8 harg8 arg10 harg10 arg12 harg12 arg17 harg17 arg18 harg18 arg19 harg19 x2 x3 x4 x5 x6 x7 x9 x11 xs0 xs1 xs2) = arg19.view.readCov (kernelRun0_C.sl.HS2_10 c arg3 harg3 arg4 harg4 arg5 harg5 arg6 harg6 arg7 harg7 arg8 harg8 arg10 harg10 arg12 harg12 arg17 harg17 arg18 harg18 arg19 harg19 x2 x3 x4 x5 x6 x7 x9 x11 xs0 xs1 xs2) (Rect.unit (s := S160x2560) ![0, 0] S160x2560.size inb_S160x2560_S160x2560_0_0).toLoadRect := rfl
  rw [h, View.readCov_eq_canon', histY_C]
  exact View.ld_unit_zero (S := S160x2560) hz0 _ _

private theorem readTd_C  : (kernelRun0_C.sl.v8446 c arg3 harg3 arg4 harg4 arg5 harg5 arg6 harg6 arg10 harg10 arg12 harg12 arg13 harg13 arg16 arg17 harg17 arg18 harg18 arg20 harg20 x2 x3 x4 x5 x9 x11 x12 xs0 xs1 xs3) = (tdAdd xs3 (hArr x2 x3 x4 x5 x9 x11 xs0 xs1) x12) := by
  have h : (kernelRun0_C.sl.v8446 c arg3 harg3 arg4 harg4 arg5 harg5 arg6 harg6 arg10 harg10 arg12 harg12 arg13 harg13 arg16 arg17 harg17 arg18 harg18 arg20 harg20 x2 x3 x4 x5 x9 x11 x12 xs0 xs1 xs3) = arg20.view.readCov (kernelRun0_C.sl.HS3_1 c arg3 harg3 arg4 harg4 arg5 harg5 arg6 harg6 arg10 harg10 arg12 harg12 arg13 harg13 arg16 arg17 harg17 arg18 harg18 arg20 harg20 x2 x3 x4 x5 x9 x11 x12 xs0 xs1 xs3) (Rect.unit (s := S160x112) ![0, 0] S160x112.size inb_S160x112_S160x112_0_0).toLoadRect := rfl
  rw [h, View.readCov_eq_canon', histTd_C]
  exact View.ld_unit_zero (Val := Elt F) (e := .f32) (S := S160x112) hz0 inb_S160x112_S160x112_0_0 (tdAdd (F := F) xs3 (hArr x2 x3 x4 x5 x9 x11 xs0 xs1) x12)

/-- The result rows. -/
theorem hist14_C : View.canon (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 xs0 xs1 xs2 xs3).1 = yFin x0 (yArr (hOf 0 x2 x3 x4 x5 x9 x11 xs0 xs1) (hOf 1 x2 x3 x4 x5 x9 x11 xs0 xs1) x6 x7 xs2) (tdAdd xs3 (hArr x2 x3 x4 x5 x9 x11 xs0 xs1) x12) x13 := by
  have h : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 xs0 xs1 xs2 xs3).1 =
    [⟨(Rect.unit (s := S160x2560) ![0, 0] S160x2560.size inb_S160x2560_S160x2560_0_0), yFin (View.readAt (Elt F) arg1.view (Rect.unit (s := S160x1) ![0, 0] S160x1.size inb_S160x1_S160x1_0_0).toLoadRect (harg1.unread x0)) (kernelRun0_C.sl.v8481 c arg3 harg3 arg4 harg4 arg5 harg5 arg6 harg6 arg7 harg7 arg8 harg8 arg10 harg10 arg12 harg12 arg17 harg17 arg18 harg18 arg19 harg19 x2 x3 x4 x5 x6 x7 x9 x11 xs0 xs1 xs2) (kernelRun0_C.sl.v8446 c arg3 harg3 arg4 harg4 arg5 harg5 arg6 harg6 arg10 harg10 arg12 harg12 arg13 harg13 arg16 arg17 harg17 arg18 harg18 arg20 harg20 x2 x3 x4 x5 x9 x11 x12 xs0 xs1 xs3) (View.readAt (Elt F) arg14.view (Rect.unit (s := S112x2560) ![0, 0] S112x2560.size inb_S112x2560_S112x2560_0_0).toLoadRect (harg14.unread x13))⟩] := rfl
  rw [h, View.canon_unit_zero hz0, readY_C, readTd_C]
  simp only [View.readAt_eq_ld, Memref.IsWhole.read_unread, View.ld_unit_zero (S := S160x256) hz0, View.ld_unit_zero (S := S80x256) hz0, View.ld_unit_zero (S := S8x2560) hz0, View.ld_unit_zero (S := S160x112) hz0, View.ld_unit_zero (S := S112x256) hz0, View.ld_unit_zero (S := S160x1) hz0, View.ld_unit_zero (S := S112x2560) hz0, View.ld_unit_zero (S := S160x2560) hz0]

/-- What the case leaves in this buffer. -/
theorem out0_C_15_val : out0_C_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 xs0 xs1 xs2 xs3 = (hArr x2 x3 x4 x5 x9 x11 xs0 xs1) := by
  unfold out0_C_15
  rw [View.read_writes_junk_eq_canon]
  exact hist15_C ..

/-- What the case leaves in this buffer. -/
theorem sout0_C_2_val : sout0_C_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 xs0 xs1 xs2 xs3 = (yArr (hOf 0 x2 x3 x4 x5 x9 x11 xs0 xs1) (hOf 1 x2 x3 x4 x5 x9 x11 xs0 xs1) x6 x7 xs2) := by
  unfold sout0_C_2
  rw [View.read_writes_junk_eq_canon]
  exact histY_C ..

/-- What the case leaves in this buffer. -/
theorem sout0_C_3_val : sout0_C_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 xs0 xs1 xs2 xs3 = (tdAdd xs3 (hArr x2 x3 x4 x5 x9 x11 xs0 xs1) x12) := by
  unfold sout0_C_3
  rw [View.read_writes_junk_eq_canon]
  exact histTd_C ..

/-- What the case leaves in this buffer. -/
theorem out0_C_14_val : out0_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 x11 x12 x13 xs0 xs1 xs2 xs3 = yFin x0 (yArr (hOf 0 x2 x3 x4 x5 x9 x11 xs0 xs1) (hOf 1 x2 x3 x4 x5 x9 x11 xs0 xs1) x6 x7 xs2) (tdAdd xs3 (hArr x2 x3 x4 x5 x9 x11 xs0 xs1) x12) x13 := by
  unfold out0_C_14
  rw [View.read_writes_junk_eq_canon]
  exact hist14_C ..

end Cert.Q4
end
-- ==== Proof.Words.lean ====
module

public import Idealize.ShloMosaic.Lib.Pointwise
public import Idealize.ShloMosaic.PureOps.Ideal.Laws

@[expose] public section

noncomputable section

namespace Cert.Q4

open Idealize.ShloMosaic

/-- The pattern of a float16 number moved to a 32-bit pattern as the kernel moves it: sign to bit 31,
    exponent and fraction thirteen places up, the three bits between cleared. -/
def moved (h : BitVec 16) : BitVec 32 :=
  (((h.setWidth 32) <<< 16).sshiftRight 3) &&& 0x8FFFE000#32

/-- The fields of a moved pattern, checked on every 16-bit word: after the exponent is raised by 112 the sign is the
    word's, the exponent is the word's plus 112 and the fraction is the word's times 2¹³; and the test for a zero
    exponent and the sign's own pattern read what they should. -/
def fieldsOk (n : Nat) : Bool :=
  let h := BitVec.ofNat 16 n
  let b := moved h
  let v := b + 0x38000000#32
  let l := (b &&& 0x80000000#32) ||| 0x38800000#32
  ((v.extractLsb' 31 1).toNat == n / 32768) && ((v.extractLsb' 23 8).toNat == n / 1024 % 32 + 112)
    && ((v.extractLsb' 0 23).toNat == n % 1024 * 8192)
    && ((l.extractLsb' 31 1).toNat == n / 32768) && ((l.extractLsb' 23 8).toNat == 113)
    && ((l.extractLsb' 0 23).toNat == 0)
    && (((b &&& 0x0F800000#32) == 0#32) == (n / 1024 % 32 == 0))

set_option maxRecDepth 100000 in
theorem fieldsOk_all : (List.range 65536).all fieldsOk = true := by decide +kernel

end Cert.Q4
-- ==== Proof.Half.lean ====
module

public import proofs.«01_k».proof.Proof.Words

@[expose] public section

noncomputable section

namespace Cert.Q4

open Idealize.ShloMosaic

/-- The sign of a float16 pattern. -/
def sgnR (h : BitVec 16) : ℝ := if h.toNat / 32768 = 1 then -1 else 1

/-- The magnitude of a float16 pattern, read as the reference reads it. -/
def magR (h : BitVec 16) : ℝ :=
  if h.toNat / 1024 % 32 = 0 then ((h.toNat % 1024 : ℕ) : ℝ) * (2 : ℝ) ^ (-24 : ℤ)
  else (1024 + ((h.toNat % 1024 : ℕ) : ℝ)) * (2 : ℝ) ^ (((h.toNat / 1024 % 32 : ℕ) : ℤ) - 25)

/-- The number a float16 pattern stands for. -/
def halfR (h : BitVec 16) : ℝ := sgnR h * magR h

theorem fields (h : BitVec 16) : fieldsOk h.toNat = true :=
  List.all_eq_true.mp fieldsOk_all _ (List.mem_range.mpr h.isLt)

theorem sgn_bit {w : BitVec 1} {n : Nat} (h : w.toNat = n) : (w == 1#1) = decide (n = 1) := by
  subst h
  by_cases e : w = 1#1
  · subst e; rfl
  · have : w.toNat ≠ 1 := fun h => e (BitVec.eq_of_toNat_eq h)
    simp [e, this]

/-- The scale word's number, as the kernel computes it from the moved pattern. -/
theorem decode (h : BitVec 16) :
    (if (moved h &&& 260046848#32) = 0#32 then
      (Ideal.ofBits .f32 (moved h + 939524096#32) + Ideal.ofBits .f32 (moved h + 939524096#32))
        - Ideal.ofBits .f32 ((moved h &&& 2147483648#32) ||| 947912704#32)
     else Ideal.ofBits .f32 (moved h + 939524096#32) : EReal) = ((halfR h : ℝ) : EReal) := by
  have f := fields h
  unfold fieldsOk at f
  simp only [BitVec.ofNat_toNat, BitVec.setWidth_eq, Bool.and_eq_true, beq_iff_eq] at f
  obtain ⟨⟨⟨⟨⟨⟨s1, e1⟩, m1⟩, s2⟩, e2⟩, m2⟩, z⟩ := f
  have hv : Ideal.ofBits .f32 (moved h + 939524096#32)
      = (((if h.toNat / 32768 = 1 then (-1 : ℝ) else 1) * ((2 ^ 23 + h.toNat % 1024 * 8192 : ℕ) : ℝ)
          * (2 : ℝ) ^ (((h.toNat / 1024 % 32 + 112 : ℕ) : ℤ) - 127 - 23) : ℝ) : EReal) := by
    show Ideal.ieee 8 23 _ = _
    unfold Ideal.ieee
    simp only [show (8 + 23 : ℕ) = 31 from rfl]
    rw [sgn_bit s1, e1, m1]
    have he : h.toNat / 1024 % 32 < 32 := Nat.mod_lt _ (by norm_num)
    rw [if_neg (by omega), if_neg (by omega)]
    simp only [decide_eq_true_eq]
    norm_num
  have hl : Ideal.ofBits .f32 ((moved h &&& 2147483648#32) ||| 947912704#32)
      = (((if h.toNat / 32768 = 1 then (-1 : ℝ) else 1) * ((2 ^ 23 : ℕ) : ℝ) * (2 : ℝ) ^ ((113 : ℤ) - 127 - 23) : ℝ) : EReal) := by
    show Ideal.ieee 8 23 _ = _
    unfold Ideal.ieee
    simp only [show (8 + 23 : ℕ) = 31 from rfl]
    rw [sgn_bit s2, e2, m2]
    rw [if_neg (by omega), if_neg (by omega)]
    simp only [decide_eq_true_eq]
    norm_num
  rw [hv, hl]
  unfold halfR sgnR magR
  have hp : (2 : ℝ) ^ (((h.toNat / 1024 % 32 + 112 : ℕ) : ℤ) - 127 - 23) = (2 : ℝ) ^ (((h.toNat / 1024 % 32 : ℕ) : ℤ) - 25) * (2 : ℝ) ^ (-13 : ℤ) := by
    rw [← zpow_add₀ (by norm_num : (2 : ℝ) ≠ 0)]
    refine congrArg _ ?_; push_cast; ring
  by_cases e0 : h.toNat / 1024 % 32 = 0
  · have z' : moved h &&& 260046848#32 = 0#32 := by
      rw [e0] at z; simpa using z
    rw [if_pos z', if_pos e0, ← EReal.coe_add, ← EReal.coe_sub]
    refine congrArg (fun r : ℝ => (r : EReal)) ?_
    rw [hp, e0]
    push_cast
    norm_num
    split_ifs <;> ring
  · have z' : ¬ (moved h &&& 260046848#32 = 0#32) := by
      intro hz; rw [hz] at z; simp [e0] at z
    rw [if_neg z', if_neg e0]
    refine congrArg (fun r : ℝ => (r : EReal)) ?_
    rw [hp]
    push_cast
    have : (2 : ℝ) ^ (-13 : ℤ) = 1 / 8192 := by norm_num
    rw [this]
    split_ifs <;> ring

end Cert.Q4
-- ==== Proof.Tile.lean ====
module

public import proofs.«01_k».proof.Proof.Blocks
public import proofs.«01_k».proof.Proof.Half
public import Idealize.ShloMosaic.Lib.Pointwise
public import Idealize.ShloMosaic.Lib.BitcastPair
public import Idealize.ShloMosaic.Lib.StableHlo.ReadAt

@[expose] public section

noncomputable section

namespace Cert.Q4

open Idealize.ShloMosaic Cert.KernelIdeal Cert.KernelIdeal.Gen

/-- A word of gate or up scales: row `2r + 1` on row `2r`. -/
theorem gword_apply (w : Vec Ideal S80x256 .i16) (r : Fin 40) (c : Fin 256) :
    gword (F := Ideal) w (ix2 r c) = (w (ix2 ⟨2 * r.val + 1, by omega⟩ c) : BitVec 16) ++ (w (ix2 ⟨2 * r.val, by omega⟩ c) : BitVec 16) := by
  unfold gword
  rw [shapeCast_id, bitcast_16_32]
  congr 1 <;> refine congrArg w ?_ <;> funext a <;> apply Fin.ext <;> match a with | ⟨0, _⟩ => rfl | ⟨1, _⟩ => rfl

/-- A word of down scales. -/
theorem dword_apply (w : Vec Ideal S8x2560 .i16) (r : Fin 4) (c : Fin 2560) :
    dword (F := Ideal) w (ix2 r c) = (w (ix2 ⟨2 * r.val + 1, by omega⟩ c) : BitVec 16) ++ (w (ix2 ⟨2 * r.val, by omega⟩ c) : BitVec 16) := by
  unfold dword
  rw [shapeCast_id, bitcast_16_32]
  congr 1 <;> refine congrArg w ?_ <;> funext a <;> apply Fin.ext <;> match a with | ⟨0, _⟩ => rfl | ⟨1, _⟩ => rfl

/-- A low half's pattern moved. -/
theorem even_word (a b : BitVec 16) :
    (((a ++ b : BitVec 32) <<< 16).sshiftRight 3) &&& 2415910912#32 = moved b := by
  unfold moved
  have e : ((a ++ b : BitVec 32) <<< 16) = (b.setWidth 32) <<< 16 := by
    apply BitVec.eq_of_getLsbD_eq
    intro i hi
    simp only [BitVec.getLsbD_shiftLeft, BitVec.getLsbD_append, BitVec.getLsbD_setWidth]
    by_cases h : i < 16
    · simp [h]
    · have : i - 16 < 16 := by omega
      simp [h, this, hi]
      omega
  rw [e]

/-- A high half's pattern moved. -/
theorem odd_word (a b : BitVec 16) :
    ((a ++ b : BitVec 32).sshiftRight 3) &&& 2415910912#32 = moved a := by
  unfold moved
  apply BitVec.eq_of_getLsbD_eq
  intro i hi
  have hm : ∀ j : Fin 13, (2415910912#32).getLsbD j.val = false := by decide
  simp only [BitVec.getLsbD_and]
  by_cases h : i < 13
  · rw [hm ⟨i, h⟩]; simp
  · refine congrArg (fun z : Bool => z && _) ?_
    simp only [BitVec.getLsbD_sshiftRight, BitVec.getLsbD_shiftLeft, BitVec.getLsbD_append, BitVec.getLsbD_setWidth,
      BitVec.msb_eq_getLsbD_last]
    have h2 : ¬ 3 + i < 16 := by omega
    by_cases h3 : 3 + i < 32
    · have h4 : 3 + i - 16 < 32 := by omega
      simp [h2, h3, hi, h4]
    · simp [h2, h3, hi]

theorem shli_lit (x : BitVec 32) (k : Nat) (hk : k < 32) : IntOp.shli .vector x (BitVec.ofNat 32 k) = x <<< k := by
  have h : (BitVec.ofNat 32 k).toNat = k := by rw [BitVec.toNat_ofNat]; omega
  unfold IntOp.shli
  rw [h, if_pos hk, BitVec.shiftLeft_eq', h]

theorem shrsi_lit (x : BitVec 32) (k : Nat) (hk : k < 32) : IntOp.shrsi .vector x (BitVec.ofNat 32 k) = x.sshiftRight k := by
  have h : (BitVec.ofNat 32 k).toNat = k := by rw [BitVec.toNat_ofNat]; omega
  unfold IntOp.shrsi
  rw [h, if_pos hk, BitVec.sshiftRight_eq', h]

theorem select_eq {α : Type} {w : Nat} (a b : BitVec w) (x y : α) :
    Scalar.select (IntOp.cmpi .eq a b) x y = if a = b then x else y := by
  unfold Scalar.select
  by_cases h : a = b
  · subst h; rw [IntOp.cmpi_eq_self]; simp
  · have : IntOp.cmpi .eq a b = 0#1 := by simp only [IntOp.cmpi, beq_false_of_ne h]; rfl
    rw [this]; simp [h]

theorem evenW_apply {s : Shape} (w : IVec s 32) (j : s.Idx) :
    evenW w j = (((w j) <<< 16).sshiftRight 3) &&& 2415910912#32 := by
  pointwise [evenW]
  unfold IntOp.andi
  rw [shli_lit _ 16 (by decide), shrsi_lit _ 3 (by decide)]

theorem oddW_apply {s : Shape} (w : IVec s 32) (j : s.Idx) :
    oddW w j = ((w j).sshiftRight 3) &&& 2415910912#32 := by
  pointwise [oddW]
  unfold IntOp.andi
  rw [shrsi_lit _ 3 (by decide)]

/-- A selection by an equality of words, the words and the branches spelled as the program spells them. -/
theorem scale_sel (y c1 c2 c3 c4 z : BitVec 32) (f : BitVec 32 → EReal) :
    Scalar.select (IntOp.cmpi .eq (IntOp.andi y c2) z)
      ((f (IntOp.addi y c1) + f (IntOp.addi y c1)) - f (IntOp.ori (IntOp.andi y c3) c4)) (f (IntOp.addi y c1))
    = if y &&& c2 = z then (f (y + c1) + f (y + c1)) - f ((y &&& c3) ||| c4) else f (y + c1) :=
  select_eq _ _ _ _

/-- `scaleOf` with its constants as variables. -/
def scaleG {s : Shape} (c1 c2 c3 c4 z : BitVec 32) (b : IVec s 32) : FVec Ideal s .f32 :=
  let v : FVec Ideal s .f32 := bitcastToFloat .f32 (addi b (broadcast s c1))
  select (cmpi .eq (andi b (broadcast s c2)) (broadcast s z))
    (subf (addf v v) (bitcastToFloat .f32 (ori (andi b (broadcast s c3)) (broadcast s c4)))) v

theorem scaleG_apply {s : Shape} (c1 c2 c3 c4 z : BitVec 32) (x : IVec s 32) (j : s.Idx) :
    scaleG c1 c2 c3 c4 z x j = Scalar.select (IntOp.cmpi .eq (IntOp.andi (x j) c2) z)
      ((Ideal.ofBits .f32 (IntOp.addi (x j) c1) + Ideal.ofBits .f32 (IntOp.addi (x j) c1))
        - Ideal.ofBits .f32 (IntOp.ori (IntOp.andi (x j) c3) c4))
      (Ideal.ofBits .f32 (IntOp.addi (x j) c1)) := rfl

theorem scaleOf_eq {s : Shape} (x : IVec s 32) :
    scaleOf (F := Ideal) x = scaleG 939524096#32 260046848#32 2147483648#32 947912704#32 0#32 x := rfl

/-- A scale at an index, by its moved pattern. -/
theorem scaleOf_apply {s : Shape} (x : IVec s 32) (j : s.Idx) (h : BitVec 16) (e : x j = moved h) :
    scaleOf (F := Ideal) x j = ((halfR h : ℝ) : EReal) :=
  (congrFun (scaleOf_eq x) j).trans ((scaleG_apply _ _ _ _ _ x j).trans ((scale_sel (x j) _ _ _ _ _ (Ideal.ofBits .f32)).trans
    ((congrArg (fun y : BitVec 32 => (if y &&& 260046848#32 = 0#32 then
      (Ideal.ofBits .f32 (y + 939524096#32) + Ideal.ofBits .f32 (y + 939524096#32))
        - Ideal.ofBits .f32 ((y &&& 2147483648#32) ||| 947912704#32)
     else Ideal.ofBits .f32 (y + 939524096#32) : EReal)) e).trans (decode h))))

/-- The scale of an even row of a block of scales. -/
theorem scale_even {s : Shape} (w : IVec s 32) (j : s.Idx) (a b : BitVec 16) (h : w j = a ++ b) :
    scaleOf (F := Ideal) (evenW w) j = ((halfR b : ℝ) : EReal) :=
  scaleOf_apply _ j b (by rw [evenW_apply, h, even_word])

/-- The scale of an odd row of a block of scales. -/
theorem scale_odd {s : Shape} (w : IVec s 32) (j : s.Idx) (a b : BitVec 16) (h : w j = a ++ b) :
    scaleOf (F := Ideal) (oddW w) j = ((halfR a : ℝ) : EReal) :=
  scaleOf_apply _ j a (by rw [oddW_apply, h, odd_word])

/-- A code of a packed byte: the low one (`k` even) or the high one. -/
def nibI (b : BitVec 8) (k : Nat) : ℤ := if k % 2 = 0 then (b.toNat % 16 : ℕ) - 8 else (b.toNat / 16 : ℕ) - 8

theorem low_code (b : BitVec 8) :
    ((((b ^^^ 136#8).setWidth 32) <<< 28).sshiftRight 28).toInt = ((b.toNat % 16 : ℕ) : ℤ) - 8 := by
  revert b; decide +kernel

theorem high_code (b : BitVec 8) :
    ((((b ^^^ 136#8).setWidth 32) <<< 24).sshiftRight 28).toInt = ((b.toNat / 16 : ℕ) : ℤ) - 8 := by
  revert b; decide +kernel

theorem low_key (b : BitVec 8) (p : Nat) (h : p % 2 = 0) : FloatOps.sitofp (F := Ideal) FTy.bf16 (IntOp.shrsi ArithUnit.vector
    (IntOp.shli ArithUnit.vector (BitVec.setWidth 32 (IntOp.xori b 136#8)) 28#32) 28#32) = (((nibI b p : ℤ) : ℝ) : EReal) := by
  rw [shli_lit _ 28 (by decide), shrsi_lit _ 28 (by decide)]
  unfold nibI IntOp.xori
  rw [if_pos h, ← low_code]
  rfl

theorem high_key (b : BitVec 8) (p : Nat) (h : ¬ p % 2 = 0) : FloatOps.sitofp (F := Ideal) FTy.bf16 (IntOp.shrsi ArithUnit.vector
    (IntOp.shli ArithUnit.vector (BitVec.setWidth 32 (IntOp.xori b 136#8)) 24#32) 28#32) = (((nibI b p : ℤ) : ℝ) : EReal) := by
  rw [shli_lit _ 24 (by decide), shrsi_lit _ 28 (by decide)]
  unfold nibI IntOp.xori
  rw [if_neg h, ← high_code]
  rfl

/-- Codes unpacked from a block already transposed. -/
def nibT (t : IVec S128x128 8) : FVec Ideal S256x128 .bf16 :=
  let v := extui 32 (xori t (broadcast S128x128 136#8)) (by decide)
  let lo := shrsi (shli v (broadcast S128x128 28#32)) (broadcast S128x128 28#32)
  let hi := shrsi (shli v (broadcast S128x128 24#32)) (broadcast S128x128 28#32)
  sitofp .bf16 (shapeCast S256x128 (concatenate S128x2x128 1
    [⟨S128x1x128, shapeCast S128x1x128 lo (by decide)⟩, ⟨S128x1x128, shapeCast S128x1x128 hi (by decide)⟩]
    concatenates_S128x1x128_S128x1x128_S128x2x128_d1) (by decide))

theorem nibT_apply (t : IVec S128x128 8) (p : Fin 256) (l : Fin 128) :
    nibT t (ix2 p l) = (((nibI (t (ix2 ⟨p.val / 2, by omega⟩ l)) p.val : ℤ) : ℝ) : EReal) := by
  unfold nibT
  pointwise
  by_cases h : p.val % 2 < 1
  · exact (congrArg (FloatOps.sitofp (F := Ideal) FTy.bf16) (dif_pos h)).trans (low_key _ _ (by omega))
  · exact (congrArg (FloatOps.sitofp (F := Ideal) FTy.bf16) (dif_neg h)).trans (high_key _ _ (by omega))

/-- A code of a packed block as the products read it. -/
theorem nibs_apply (q : Vec Ideal S128x128 .i8) (p : Fin 256) (l : Fin 128) :
    nibs (F := Ideal) q (ix2 p l) = (((nibI (q (ix2 l ⟨p.val / 2, by omega⟩)) p.val : ℤ) : ℝ) : EReal) := by
  have e : nibs (F := Ideal) q = nibT (transpose S128x128 [1, 0] q (by decide)) := rfl
  have e2 : (transpose S128x128 [1, 0] q (by decide) : IVec S128x128 8) (ix2 ⟨p.val / 2, by omega⟩ l) = q (ix2 l ⟨p.val / 2, by omega⟩) := by
    pointwise
  rw [e, nibT_apply, e2]

/-- A float32 pattern whose exponent is not all ones stands for a real number. -/
theorem ofBits_real (w : BitVec 32) (h : (w.extractLsb' 23 8).toNat ≠ 255) : ∃ x : ℝ, Ideal.ofBits .f32 w = (x : EReal) := by
  have e : Ideal.ofBits .f32 w = Ideal.ieee 8 23 w := rfl
  rw [e]
  unfold Ideal.ieee
  dsimp only
  rw [if_neg (by simpa using h)]
  split_ifs <;> exact ⟨_, rfl⟩

/-- The two parts of a real scale add up under any code. -/
theorem two_parts {s : Shape} (v : FVec Ideal s .f32) (j : s.Idx) (r : ℝ) (h : v j = (r : EReal)) (c : ℤ) :
    ((c : ℝ) : EReal) * hiB (F := Ideal) v j + ((c : ℝ) : EReal) * loB (F := Ideal) v j = ((c * r : ℝ) : EReal) := by
  have hh : ∃ x : ℝ, hiB (F := Ideal) v j = (x : EReal) := by
    unfold hiB hiPart
    pointwise
    rw [h]
    obtain ⟨k1, e1⟩ := ofBits_real 964689920#32 (by decide)
    obtain ⟨k2, e2⟩ := ofBits_real 1224736784#32 (by decide)
    rw [e1, e2, ← EReal.coe_mul, ← EReal.coe_add, ← EReal.coe_mul, ← EReal.coe_sub, ← EReal.coe_sub]
    exact ⟨_, rfl⟩
  obtain ⟨x, hx⟩ := hh
  have hl : loB (F := Ideal) v j = ((r - x : ℝ) : EReal) := by
    show v j - hiB (F := Ideal) v j = _
    rw [h, hx, EReal.coe_sub]
  rw [hx, hl, ← EReal.coe_mul, ← EReal.coe_mul, ← EReal.coe_add]
  exact congrArg (fun r : ℝ => (r : EReal)) (by ring)

theorem rowB_apply {R : Nat} (v : FVec Ideal ⟨2, ![R, 128]⟩ .bf16) (r : Nat) (h : Shape.Slices (s := ⟨2, ![R, 128]⟩) ![r, 0] S1x128)
    (hr : r < R) (i : Fin 16) (l : Fin 128) : rowB (F := Ideal) v r h (ix2 i l) = v (ix2 ⟨r, hr⟩ l) := by
  unfold rowB
  rw [shapeCast_id]
  pointwise
  refine congrArg v ?_
  funext a; apply Fin.ext
  match a with | ⟨0, _⟩ => simp [Shape.Idx.norm_def] | ⟨1, _⟩ => simp [Shape.Idx.norm_def]
end Cert.Q4
-- ==== Proof.GateTile.lean ====
/- The gate and up weight blocks, read at an index. -/
module

public import proofs.«01_k».proof.Proof.Tile

@[expose] public section

noncomputable section

namespace Cert.Q4

open Idealize.ShloMosaic Cert.KernelIdeal Cert.KernelIdeal.Gen

theorem rowB_lt {R r : Nat} (h : Shape.Slices (s := ⟨2, ![R, 128]⟩) ![r, 0] S1x128) : r < R := by
  have := h.2 0
  simpa using this

theorem rowB_at {R : Nat} (v : FVec Ideal ⟨2, ![R, 128]⟩ .bf16) (r : Nat) (h : Shape.Slices (s := ⟨2, ![R, 128]⟩) ![r, 0] S1x128)
    (i : Fin 16) (l : Fin 128) : rowB (F := Ideal) v r h (ix2 i l) = v (ix2 ⟨r, rowB_lt h⟩ l) :=
  rowB_apply v r h (rowB_lt h) i l

theorem mul2_lt {o : Nat} (ho : S256x128.Slices ![o, 0] S16x128) : o + 16 ≤ 256 := by
  have := ho.2 0
  simpa using this

/-- Sixteen rows of codes times a scale's two parts. -/
theorem mul2_at (q : Vec Ideal S128x128 .i8) (o : Nat) (ho : S256x128.Slices ![o, 0] S16x128) (h l : FVec Ideal S16x128 .bf16)
    (i : Fin 16) (c : Fin 128) :
    mul2 (F := Ideal) (nibs q) o ho h l (ix2 i c)
      = (((nibI (q (ix2 c ⟨(o + i.val) / 2, by have := mul2_lt ho; omega⟩)) (o + i.val) : ℤ) : ℝ) : EReal) * h (ix2 i c)
        + (((nibI (q (ix2 c ⟨(o + i.val) / 2, by have := mul2_lt ho; omega⟩)) (o + i.val) : ℤ) : ℝ) : EReal) * l (ix2 i c) := by
  have hlt := mul2_lt ho
  have e : extractStridedSlice S16x128 ![o, 0] (nibs (F := Ideal) q) ho (ix2 i c) = nibs (F := Ideal) q (ix2 ⟨o + i.val, by omega⟩ c) := by
    unfold extractStridedSlice
    refine congrArg _ ?_
    funext a; apply Fin.ext
    match a with | ⟨0, _⟩ => rfl | ⟨1, _⟩ => simp [ix2]
  show extractStridedSlice S16x128 ![o, 0] (nibs (F := Ideal) q) ho (ix2 i c) * _ + extractStridedSlice S16x128 ![o, 0] (nibs (F := Ideal) q) ho (ix2 i c) * _ = _
  rw [e, nibs_apply]

/-- Sixteen rows of a weight block at an index. -/
theorem piece_at {R : Nat} (q : Vec Ideal S128x128 .i8) (E L : FVec Ideal ⟨2, ![R, 128]⟩ .bf16) (o : Nat) (ho : S256x128.Slices ![o, 0] S16x128)
    (r : Nat) (h : Shape.Slices (s := ⟨2, ![R, 128]⟩) ![r, 0] S1x128) (s : ℝ) (l : Fin 128)
    (hyp : ∀ c : ℤ, ((c : ℝ) : EReal) * E (ix2 ⟨r, rowB_lt h⟩ l) + ((c : ℝ) : EReal) * L (ix2 ⟨r, rowB_lt h⟩ l) = ((c * s : ℝ) : EReal))
    (i : Fin 16) (ρ : Fin 256) (e : o + i.val = ρ.val) :
    mul2 (F := Ideal) (nibs q) o ho (rowB E r h) (rowB L r h) (ix2 i l)
      = ((((nibI (q (ix2 l ⟨ρ.val / 2, by omega⟩)) ρ.val : ℤ) : ℝ) * s : ℝ) : EReal) := by
  obtain ⟨n, hn⟩ := ρ
  dsimp only at e
  subst e
  rw [mul2_at, rowB_at, rowB_at]
  exact hyp _

set_option maxHeartbeats 4000000 in
/-- Sixteen blocks of sixteen rows one under the other: what holds of every block's rows holds of the whole. -/
theorem cat16 (v0 v1 v2 v3 v4 v5 v6 v7 v8 v9 v10 v11 v12 v13 v14 v15 : FVec Ideal S16x128 .bf16) (ρ : Fin 256) (l : Fin 128) (T : EReal)
    (h0 : ∀ i : Fin 16, 0 + i.val = ρ.val → v0 (ix2 i l) = T)
    (h1 : ∀ i : Fin 16, 16 + i.val = ρ.val → v1 (ix2 i l) = T)
    (h2 : ∀ i : Fin 16, 32 + i.val = ρ.val → v2 (ix2 i l) = T)
    (h3 : ∀ i : Fin 16, 48 + i.val = ρ.val → v3 (ix2 i l) = T)
    (h4 : ∀ i : Fin 16, 64 + i.val = ρ.val → v4 (ix2 i l) = T)
    (h5 : ∀ i : Fin 16, 80 + i.val = ρ.val → v5 (ix2 i l) = T)
    (h6 : ∀ i : Fin 16, 96 + i.val = ρ.val → v6 (ix2 i l) = T)
    (h7 : ∀ i : Fin 16, 112 + i.val = ρ.val → v7 (ix2 i l) = T)
    (h8 : ∀ i : Fin 16, 128 + i.val = ρ.val → v8 (ix2 i l) = T)
    (h9 : ∀ i : Fin 16, 144 + i.val = ρ.val → v9 (ix2 i l) = T)
    (h10 : ∀ i : Fin 16, 160 + i.val = ρ.val → v10 (ix2 i l) = T)
    (h11 : ∀ i : Fin 16, 176 + i.val = ρ.val → v11 (ix2 i l) = T)
    (h12 : ∀ i : Fin 16, 192 + i.val = ρ.val → v12 (ix2 i l) = T)
    (h13 : ∀ i : Fin 16, 208 + i.val = ρ.val → v13 (ix2 i l) = T)
    (h14 : ∀ i : Fin 16, 224 + i.val = ρ.val → v14 (ix2 i l) = T)
    (h15 : ∀ i : Fin 16, 240 + i.val = ρ.val → v15 (ix2 i l) = T) :
    concatenate S256x128 0 [⟨S16x128, v0⟩, ⟨S16x128, v1⟩, ⟨S16x128, v2⟩, ⟨S16x128, v3⟩, ⟨S16x128, v4⟩, ⟨S16x128, v5⟩, ⟨S16x128, v6⟩, ⟨S16x128, v7⟩, ⟨S16x128, v8⟩, ⟨S16x128, v9⟩, ⟨S16x128, v10⟩, ⟨S16x128, v11⟩, ⟨S16x128, v12⟩, ⟨S16x128, v13⟩, ⟨S16x128, v14⟩, ⟨S16x128, v15⟩]
      concatenates_S16x128_S16x128_S16x128_S16x128_S16x128_S16x128_S16x128_S16x128_S16x128_S16x128_S16x128_S16x128_S16x128_S16x128_S16x128_S16x128_S256x128_d0 (ix2 ρ l) = T := by
  have hr := ρ.isLt
  by_cases c0 : ρ.val < 16
  · refine (concatenate_apply_piece (t := S256x128) 0 _ _ (ix2 ρ l) 0 (by dsimp only [List.length]; omega) S16x128 v0 rfl rfl 0 rfl (ix2 (⟨ρ.val - 0, by omega⟩ : Fin 16) l) (fun b hb => ?_) ?_).trans (h0 ⟨ρ.val - 0, by omega⟩ (by dsimp only; omega))
    · match b, hb with
      | ⟨0, _⟩, hb => exact absurd rfl hb
      | ⟨1, _⟩, _ => rfl
    · show 0 + (ρ.val - 0) = ρ.val
      omega
  by_cases c1 : ρ.val < 32
  · refine (concatenate_apply_piece (t := S256x128) 0 _ _ (ix2 ρ l) 1 (by dsimp only [List.length]; omega) S16x128 v1 rfl rfl 16 rfl (ix2 (⟨ρ.val - 16, by omega⟩ : Fin 16) l) (fun b hb => ?_) ?_).trans (h1 ⟨ρ.val - 16, by omega⟩ (by dsimp only; omega))
    · match b, hb with
      | ⟨0, _⟩, hb => exact absurd rfl hb
      | ⟨1, _⟩, _ => rfl
    · show 16 + (ρ.val - 16) = ρ.val
      omega
  by_cases c2 : ρ.val < 48
  · refine (concatenate_apply_piece (t := S256x128) 0 _ _ (ix2 ρ l) 2 (by dsimp only [List.length]; omega) S16x128 v2 rfl rfl 32 rfl (ix2 (⟨ρ.val - 32, by omega⟩ : Fin 16) l) (fun b hb => ?_) ?_).trans (h2 ⟨ρ.val - 32, by omega⟩ (by dsimp only; omega))
    · match b, hb with
      | ⟨0, _⟩, hb => exact absurd rfl hb
      | ⟨1, _⟩, _ => rfl
    · show 32 + (ρ.val - 32) = ρ.val
      omega
  by_cases c3 : ρ.val < 64
  · refine (concatenate_apply_piece (t := S256x128) 0 _ _ (ix2 ρ l) 3 (by dsimp only [List.length]; omega) S16x128 v3 rfl rfl 48 rfl (ix2 (⟨ρ.val - 48, by omega⟩ : Fin 16) l) (fun b hb => ?_) ?_).trans (h3 ⟨ρ.val - 48, by omega⟩ (by dsimp only; omega))
    · match b, hb with
      | ⟨0, _⟩, hb => exact absurd rfl hb
      | ⟨1, _⟩, _ => rfl
    · show 48 + (ρ.val - 48) = ρ.val
      omega
  by_cases c4 : ρ.val < 80
  · refine (concatenate_apply_piece (t := S256x128) 0 _ _ (ix2 ρ l) 4 (by dsimp only [List.length]; omega) S16x128 v4 rfl rfl 64 rfl (ix2 (⟨ρ.val - 64, by omega⟩ : Fin 16) l) (fun b hb => ?_) ?_).trans (h4 ⟨ρ.val - 64, by omega⟩ (by dsimp only; omega))
    · match b, hb with
      | ⟨0, _⟩, hb => exact absurd rfl hb
      | ⟨1, _⟩, _ => rfl
    · show 64 + (ρ.val - 64) = ρ.val
      omega
  by_cases c5 : ρ.val < 96
  · refine (concatenate_apply_piece (t := S256x128) 0 _ _ (ix2 ρ l) 5 (by dsimp only [List.length]; omega) S16x128 v5 rfl rfl 80 rfl (ix2 (⟨ρ.val - 80, by omega⟩ : Fin 16) l) (fun b hb => ?_) ?_).trans (h5 ⟨ρ.val - 80, by omega⟩ (by dsimp only; omega))
    · match b, hb with
      | ⟨0, _⟩, hb => exact absurd rfl hb
      | ⟨1, _⟩, _ => rfl
    · show 80 + (ρ.val - 80) = ρ.val
      omega
  by_cases c6 : ρ.val < 112
  · refine (concatenate_apply_piece (t := S256x128) 0 _ _ (ix2 ρ l) 6 (by dsimp only [List.length]; omega) S16x128 v6 rfl rfl 96 rfl (ix2 (⟨ρ.val - 96, by omega⟩ : Fin 16) l) (fun b hb => ?_) ?_).trans (h6 ⟨ρ.val - 96, by omega⟩ (by dsimp only; omega))
    · match b, hb with
      | ⟨0, _⟩, hb => exact absurd rfl hb
      | ⟨1, _⟩, _ => rfl
    · show 96 + (ρ.val - 96) = ρ.val
      omega
  by_cases c7 : ρ.val < 128
  · refine (concatenate_apply_piece (t := S256x128) 0 _ _ (ix2 ρ l) 7 (by dsimp only [List.length]; omega) S16x128 v7 rfl rfl 112 rfl (ix2 (⟨ρ.val - 112, by omega⟩ : Fin 16) l) (fun b hb => ?_) ?_).trans (h7 ⟨ρ.val - 112, by omega⟩ (by dsimp only; omega))
    · match b, hb with
      | ⟨0, _⟩, hb => exact absurd rfl hb
      | ⟨1, _⟩, _ => rfl
    · show 112 + (ρ.val - 112) = ρ.val
      omega
  by_cases c8 : ρ.val < 144
  · refine (concatenate_apply_piece (t := S256x128) 0 _ _ (ix2 ρ l) 8 (by dsimp only [List.length]; omega) S16x128 v8 rfl rfl 128 rfl (ix2 (⟨ρ.val - 128, by omega⟩ : Fin 16) l) (fun b hb => ?_) ?_).trans (h8 ⟨ρ.val - 128, by omega⟩ (by dsimp only; omega))
    · match b, hb with
      | ⟨0, _⟩, hb => exact absurd rfl hb
      | ⟨1, _⟩, _ => rfl
    · show 128 + (ρ.val - 128) = ρ.val
      omega
  by_cases c9 : ρ.val < 160
  · refine (concatenate_apply_piece (t := S256x128) 0 _ _ (ix2 ρ l) 9 (by dsimp only [List.length]; omega) S16x128 v9 rfl rfl 144 rfl (ix2 (⟨ρ.val - 144, by omega⟩ : Fin 16) l) (fun b hb => ?_) ?_).trans (h9 ⟨ρ.val - 144, by omega⟩ (by dsimp only; omega))
    · match b, hb with
      | ⟨0, _⟩, hb => exact absurd rfl hb
      | ⟨1, _⟩, _ => rfl
    · show 144 + (ρ.val - 144) = ρ.val
      omega
  by_cases c10 : ρ.val < 176
  · refine (concatenate_apply_piece (t := S256x128) 0 _ _ (ix2 ρ l) 10 (by dsimp only [List.length]; omega) S16x128 v10 rfl rfl 160 rfl (ix2 (⟨ρ.val - 160, by omega⟩ : Fin 16) l) (fun b hb => ?_) ?_).trans (h10 ⟨ρ.val - 160, by omega⟩ (by dsimp only; omega))
    · match b, hb with
      | ⟨0, _⟩, hb => exact absurd rfl hb
      | ⟨1, _⟩, _ => rfl
    · show 160 + (ρ.val - 160) = ρ.val
      omega
  by_cases c11 : ρ.val < 192
  · refine (concatenate_apply_piece (t := S256x128) 0 _ _ (ix2 ρ l) 11 (by dsimp only [List.length]; omega) S16x128 v11 rfl rfl 176 rfl (ix2 (⟨ρ.val - 176, by omega⟩ : Fin 16) l) (fun b hb => ?_) ?_).trans (h11 ⟨ρ.val - 176, by omega⟩ (by dsimp only; omega))
    · match b, hb with
      | ⟨0, _⟩, hb => exact absurd rfl hb
      | ⟨1, _⟩, _ => rfl
    · show 176 + (ρ.val - 176) = ρ.val
      omega
  by_cases c12 : ρ.val < 208
  · refine (concatenate_apply_piece (t := S256x128) 0 _ _ (ix2 ρ l) 12 (by dsimp only [List.length]; omega) S16x128 v12 rfl rfl 192 rfl (ix2 (⟨ρ.val - 192, by omega⟩ : Fin 16) l) (fun b hb => ?_) ?_).trans (h12 ⟨ρ.val - 192, by omega⟩ (by dsimp only; omega))
    · match b, hb with
      | ⟨0, _⟩, hb => exact absurd rfl hb
      | ⟨1, _⟩, _ => rfl
    · show 192 + (ρ.val - 192) = ρ.val
      omega
  by_cases c13 : ρ.val < 224
  · refine (concatenate_apply_piece (t := S256x128) 0 _ _ (ix2 ρ l) 13 (by dsimp only [List.length]; omega) S16x128 v13 rfl rfl 208 rfl (ix2 (⟨ρ.val - 208, by omega⟩ : Fin 16) l) (fun b hb => ?_) ?_).trans (h13 ⟨ρ.val - 208, by omega⟩ (by dsimp only; omega))
    · match b, hb with
      | ⟨0, _⟩, hb => exact absurd rfl hb
      | ⟨1, _⟩, _ => rfl
    · show 208 + (ρ.val - 208) = ρ.val
      omega
  by_cases c14 : ρ.val < 240
  · refine (concatenate_apply_piece (t := S256x128) 0 _ _ (ix2 ρ l) 14 (by dsimp only [List.length]; omega) S16x128 v14 rfl rfl 224 rfl (ix2 (⟨ρ.val - 224, by omega⟩ : Fin 16) l) (fun b hb => ?_) ?_).trans (h14 ⟨ρ.val - 224, by omega⟩ (by dsimp only; omega))
    · match b, hb with
      | ⟨0, _⟩, hb => exact absurd rfl hb
      | ⟨1, _⟩, _ => rfl
    · show 224 + (ρ.val - 224) = ρ.val
      omega
  refine (concatenate_apply_piece (t := S256x128) 0 _ _ (ix2 ρ l) 15 (by dsimp only [List.length]; omega) S16x128 v15 rfl rfl 240 rfl (ix2 (⟨ρ.val - 240, by omega⟩ : Fin 16) l) (fun b hb => ?_) ?_).trans (h15 ⟨ρ.val - 240, by omega⟩ (by dsimp only; omega))
  · match b, hb with
    | ⟨0, _⟩, hb => exact absurd rfl hb
    | ⟨1, _⟩, _ => rfl
  · show 240 + (ρ.val - 240) = ρ.val
    omega

/-- A weight block at an index: the code of its row times the scale of its group. -/
theorem tile_apply {R : Nat} (q : Vec Ideal S128x128 .i8) (EH EL OH OL : FVec Ideal ⟨2, ![R, 128]⟩ .bf16) (r0 : Nat)
    (h0 : Shape.Slices (s := ⟨2, ![R, 128]⟩) ![r0, 0] S1x128) (h1 : Shape.Slices (s := ⟨2, ![R, 128]⟩) ![r0 + 1, 0] S1x128)
    (h2 : Shape.Slices (s := ⟨2, ![R, 128]⟩) ![r0 + 2, 0] S1x128) (h3 : Shape.Slices (s := ⟨2, ![R, 128]⟩) ![r0 + 3, 0] S1x128)
    (s : Nat → ℝ) (l : Fin 128)
    (hE : ∀ (i : Nat) (hi : i < 4) (hR : r0 + i < R) (c : ℤ), ((c : ℝ) : EReal) * EH (ix2 ⟨r0 + i, hR⟩ l) + ((c : ℝ) : EReal) * EL (ix2 ⟨r0 + i, hR⟩ l)
      = ((c * s (2 * i) : ℝ) : EReal))
    (hO : ∀ (i : Nat) (hi : i < 4) (hR : r0 + i < R) (c : ℤ), ((c : ℝ) : EReal) * OH (ix2 ⟨r0 + i, hR⟩ l) + ((c : ℝ) : EReal) * OL (ix2 ⟨r0 + i, hR⟩ l)
      = ((c * s (2 * i + 1) : ℝ) : EReal)) (ρ : Fin 256) :
    tile (F := Ideal) q EH EL OH OL r0 h0 h1 h2 h3 (ix2 ρ l)
      = ((((nibI (q (ix2 l ⟨ρ.val / 2, by omega⟩)) ρ.val : ℤ) : ℝ) * s (ρ.val / 32) : ℝ) : EReal) := by
  have hr := ρ.isLt
  unfold tile
  refine cat16 _ _ _ _ _ _ _ _ _ _ _ _ _ _ _ _ ρ l _ ?_ ?_ ?_ ?_ ?_ ?_ ?_ ?_ ?_ ?_ ?_ ?_ ?_ ?_ ?_ ?_
  · intro i e; rw [show ρ.val / 32 = 2 * 0 from by omega]; exact piece_at q _ _ _ _ _ _ _ l (hE 0 (by decide) _) i ρ e
  · intro i e; rw [show ρ.val / 32 = 2 * 0 from by omega]; exact piece_at q _ _ _ _ _ _ _ l (hE 0 (by decide) _) i ρ e
  · intro i e; rw [show ρ.val / 32 = 2 * 0 + 1 from by omega]; exact piece_at q _ _ _ _ _ _ _ l (hO 0 (by decide) _) i ρ e
  · intro i e; rw [show ρ.val / 32 = 2 * 0 + 1 from by omega]; exact piece_at q _ _ _ _ _ _ _ l (hO 0 (by decide) _) i ρ e
  · intro i e; rw [show ρ.val / 32 = 2 * 1 from by omega]; exact piece_at q _ _ _ _ _ _ _ l (hE 1 (by decide) _) i ρ e
  · intro i e; rw [show ρ.val / 32 = 2 * 1 from by omega]; exact piece_at q _ _ _ _ _ _ _ l (hE 1 (by decide) _) i ρ e
  · intro i e; rw [show ρ.val / 32 = 2 * 1 + 1 from by omega]; exact piece_at q _ _ _ _ _ _ _ l (hO 1 (by decide) _) i ρ e
  · intro i e; rw [show ρ.val / 32 = 2 * 1 + 1 from by omega]; exact piece_at q _ _ _ _ _ _ _ l (hO 1 (by decide) _) i ρ e
  · intro i e; rw [show ρ.val / 32 = 2 * 2 from by omega]; exact piece_at q _ _ _ _ _ _ _ l (hE 2 (by decide) _) i ρ e
  · intro i e; rw [show ρ.val / 32 = 2 * 2 from by omega]; exact piece_at q _ _ _ _ _ _ _ l (hE 2 (by decide) _) i ρ e
  · intro i e; rw [show ρ.val / 32 = 2 * 2 + 1 from by omega]; exact piece_at q _ _ _ _ _ _ _ l (hO 2 (by decide) _) i ρ e
  · intro i e; rw [show ρ.val / 32 = 2 * 2 + 1 from by omega]; exact piece_at q _ _ _ _ _ _ _ l (hO 2 (by decide) _) i ρ e
  · intro i e; rw [show ρ.val / 32 = 2 * 3 from by omega]; exact piece_at q _ _ _ _ _ _ _ l (hE 3 (by decide) _) i ρ e
  · intro i e; rw [show ρ.val / 32 = 2 * 3 from by omega]; exact piece_at q _ _ _ _ _ _ _ l (hE 3 (by decide) _) i ρ e
  · intro i e; rw [show ρ.val / 32 = 2 * 3 + 1 from by omega]; exact piece_at q _ _ _ _ _ _ _ l (hO 3 (by decide) _) i ρ e
  · intro i e; rw [show ρ.val / 32 = 2 * 3 + 1 from by omega]; exact piece_at q _ _ _ _ _ _ _ l (hO 3 (by decide) _) i ρ e

/-- The two parts of a column half of a block of scales. -/
theorem half_parts (f : Fin 2) (v : FVec Ideal S40x256 .f32) (r : Fin 40) (l : Fin 128) (x : ℝ)
    (h : v (ix2 r ⟨128 * f.val + l.val, by omega⟩) = (x : EReal)) (c : ℤ) :
    ((c : ℝ) : EReal) * half (F := Ideal) f (hiB v) (ix2 r l) + ((c : ℝ) : EReal) * half (F := Ideal) f (loB v) (ix2 r l) = ((c * x : ℝ) : EReal) := by
  have e : ∀ w : FVec Ideal S40x256 .bf16, half (F := Ideal) f w (ix2 r l) = w (ix2 r ⟨128 * f.val + l.val, by omega⟩) := by
    intro w
    unfold half extractStridedSlice
    refine congrArg _ ?_
    funext a; apply Fin.ext
    match a with | ⟨0, _⟩ => simp [ix2] | ⟨1, _⟩ => rfl
  rw [e, e]
  exact two_parts v _ x h c

/-- A gate or up weight block at an index. -/
theorem gtile_apply (f : Fin 2) (k : Fin 10) (q : Vec Ideal S128x128 .i8) (w : Vec Ideal S80x256 .i16) (ρ : Fin 256) (l : Fin 128) :
    gtile (F := Ideal) f k q w (ix2 ρ l)
      = ((((nibI (q (ix2 l ⟨ρ.val / 2, by omega⟩)) ρ.val : ℤ) : ℝ)
          * halfR (w (ix2 ⟨8 * k.val + ρ.val / 32, by omega⟩ ⟨128 * f.val + l.val, by omega⟩)) : ℝ) : EReal) := by
  unfold gtile
  refine (tile_apply q _ _ _ _ (4 * k.val) _ _ _ _ (fun g => if hg : 8 * k.val + g < 80 then halfR (w (ix2 ⟨8 * k.val + g, hg⟩ ⟨128 * f.val + l.val, by omega⟩)) else 0) l
    (fun i hi hR c => ?_) (fun i hi hR c => ?_) ρ).trans ?_
  · rw [dif_pos (by omega)]
    refine half_parts f _ _ l _ ?_ c
    refine (scale_even _ _ _ _ (gword_apply w _ _)).trans ?_
    exact congrArg (fun n : Fin 80 => ((halfR (w (ix2 n ⟨128 * f.val + l.val, by omega⟩)) : ℝ) : EReal)) (Fin.ext (by dsimp only; omega))
  · rw [dif_pos (by omega)]
    refine half_parts f _ _ l _ ?_ c
    refine (scale_odd _ _ _ _ (gword_apply w _ _)).trans ?_
    exact congrArg (fun n : Fin 80 => ((halfR (w (ix2 n ⟨128 * f.val + l.val, by omega⟩)) : ℝ) : EReal)) (Fin.ext (by dsimp only; omega))
  · rw [dif_pos (by omega)]

end Cert.Q4
-- ==== Proof.LowRank.lean ====
/- The hidden block and the selected low-rank columns, read at an index. -/
module

public import proofs.«01_k».proof.Proof.Tile

@[expose] public section

noncomputable section

namespace Cert.Q4

open Idealize.ShloMosaic Cert.KernelIdeal Cert.KernelIdeal.Gen

/-- The hidden block from its gate and up products, at an index. -/
theorem hid_apply (a : FVec Ideal S160x256 .f32) (r : Fin 160) (l : Fin 128) :
    hid (F := Ideal) a (ix2 r l) = a (ix2 r ⟨l.val, by omega⟩) * Ideal.logistic (a (ix2 r ⟨l.val, by omega⟩)) * a (ix2 r ⟨128 + l.val, by omega⟩) := by
  unfold hid
  pointwise

theorem grpI_apply (b : Fin 160) (l : Fin 112) : grpI (ix2 b l) = BitVec.ofNat 32 (l.val / 16) := by
  have e : grpI (ix2 b l) = grpI (ix2 0 l) := rfl
  rw [e]; clear e
  revert l
  decide +kernel

/-- The factor two. -/
theorem two_bf16 : Ideal.ofBits FTy.bf16 16384#16 = ((2 : ℝ) : EReal) := by
  have e : Ideal.ofBits .bf16 16384#16 = Ideal.ieee 8 7 16384#16 := rfl
  rw [e]
  unfold Ideal.ieee
  dsimp only
  rw [if_neg (by decide), if_neg (by decide)]
  refine congrArg (fun r : ℝ => (r : EReal)) ?_
  rw [if_neg (by decide), show (BitVec.extractLsb' 7 8 16384#16).toNat = 128 from by decide, show (BitVec.extractLsb' 0 7 16384#16).toNat = 0 from by decide]
  norm_num

/-- A low-rank column doubled where it belongs to its row's adapter. -/
theorem selB_apply (ids : Vec Ideal S160x1 .i32) (t : FVec Ideal S160x112 .f32) (b : Fin 160) (c : Fin 112) :
    selB (F := Ideal) ids t (ix2 b c) = if BitVec.ofNat 32 (c.val / 16) = ids (ix2 b 0) then t (ix2 b c) * ((2 : ℝ) : EReal) else 0 := by
  unfold selB
  pointwise
  rw [select_eq, grpI_apply, two_bf16]

theorem tPart_apply (ids : Vec Ideal S160x1 .i32) (t : FVec Ideal S160x112 .f32) (b : Fin 160) (c : Fin 112) :
    tPart (F := Ideal) ids t (ix2 b ⟨c.val, by omega⟩) = selB (F := Ideal) ids t (ix2 b c) := by
  unfold tPart
  pointwise
theorem lowB_apply (x : FVec Ideal S160x2560 .bf16) (a : FVec Ideal S112x2560 .bf16) (b : Fin 160) (c : Fin 112) :
    lowB (F := Ideal) x a (ix2 b c) = ∑ p : Fin 2560, x (ix2 b p) * a (ix2 c p) := by
  unfold lowB
  pointwise

/-- Two halves of 128 columns. -/
theorem canon_two (v1 v0 : FVec Ideal S160x128 .bf16) (r : Fin 160) (c : Fin 256) :
    View.canon (Val := Elt Ideal) (s := S160x256) (e := .bf16)
      [⟨Rect.unit (s := S160x256) ![0, 128] S160x128.size inb_S160x256_S160x128_0_128, v1⟩,
       ⟨Rect.unit (s := S160x256) ![0, 0] S160x128.size inb_S160x256_S160x128_0_0, v0⟩] (ix2 r c)
      = if c.val < 128 then v0 (ix2 r ⟨c.val % 128, Nat.mod_lt _ (by decide)⟩) else v1 (ix2 r ⟨c.val % 128, Nat.mod_lt _ (by decide)⟩) := by
  refine (View.canon_apply_of_pieces (Val := Elt Ideal) (fun i : S160x256.Idx =>
    if (i 1).val < 128 then v0 (ix2 (i 0) ⟨(i 1).val % 128, Nat.mod_lt _ (by decide)⟩) else v1 (ix2 (i 0) ⟨(i 1).val % 128, Nat.mod_lt _ (by decide)⟩)) _ ?_ (ix2 r c) ?_).trans rfl
  · intro p hp y
    simp only [List.mem_cons, List.not_mem_nil, or_false] at hp
    rcases hp with rfl | rfl
    · change S160x128.Idx at y
      have hy : (y 1).val < 128 := (y 1).isLt
      refine Eq.trans ?_ (if_neg (show ¬ (128 + 1 * (y 1).val < 128) by omega)).symm
      refine congrArg v1 ?_
      funext a; apply Fin.ext
      match a with
      | ⟨0, _⟩ => show (y 0).val = 0 + 1 * (y 0).val; omega
      | ⟨1, _⟩ => show (y 1).val = (128 + 1 * (y 1).val) % 128; omega
    · change S160x128.Idx at y
      have hy : (y 1).val < 128 := (y 1).isLt
      refine Eq.trans ?_ (if_pos (show (0 + 1 * (y 1).val < 128) by omega)).symm
      refine congrArg v0 ?_
      funext a; apply Fin.ext
      match a with
      | ⟨0, _⟩ => show (y 0).val = 0 + 1 * (y 0).val; omega
      | ⟨1, _⟩ => show (y 1).val = (0 + 1 * (y 1).val) % 128; omega
  · by_cases h : c.val < 128
    · refine ⟨_, List.mem_cons_of_mem _ List.mem_cons_self, ?_⟩
      rw [Rect.mem_set_unit]
      intro a
      match a with
      | ⟨0, _⟩ => exact ⟨Nat.zero_le _, by have := r.isLt; show r.val < 0 + 160; omega⟩
      | ⟨1, _⟩ => exact ⟨Nat.zero_le _, by show c.val < 0 + 128; omega⟩
    · refine ⟨_, List.mem_cons_self, ?_⟩
      rw [Rect.mem_set_unit]
      intro a
      match a with
      | ⟨0, _⟩ => exact ⟨Nat.zero_le _, by have := r.isLt; show r.val < 0 + 160; omega⟩
      | ⟨1, _⟩ => exact ⟨by show 128 ≤ c.val; omega, by have := c.isLt; show c.val < 128 + 128; omega⟩

end Cert.Q4
-- ==== Proof.RefScale.lean ====
/- The reference’s scales, weights and halves of the input. -/
module

public import proofs.«01_k».proof.Proof.Tile
public import proofs.«01_k».proof.Proof.GateTile
public import proofs.«01_k».proof.Proof.LowRank
public import proofs.«01_k».proof.Proof.Gen.ReferenceIdeal.Read
@[expose] public section

noncomputable section

namespace Cert.Q4

open Idealize.ShloMosaic Cert.KernelIdeal Cert.KernelIdeal.Gen

open Cert.ReferenceIdeal.Read

theorem host_shr (x : BitVec 32) (k : Nat) (hk : k < 32) (hx : x.toNat < 65536) : IntOp.shrsi .host x (BitVec.ofNat 32 k) = BitVec.ofNat 32 (x.toNat / 2 ^ k) := by
  have h : (BitVec.ofNat 32 k).toNat = k := by rw [BitVec.toNat_ofNat]; omega
  unfold IntOp.shrsi
  rw [h, if_pos hk, BitVec.sshiftRight_eq', h, BitVec.sshiftRight_eq_of_msb_false (BitVec.msb_eq_false_iff_two_mul_lt.2 (by omega))]
  apply BitVec.eq_of_toNat_eq
  rw [BitVec.toNat_ushiftRight, Nat.shiftRight_eq_div_pow, BitVec.toNat_ofNat, Nat.mod_eq_of_lt]
  exact lt_of_le_of_lt (Nat.div_le_self _ _) (by omega)

theorem host_and (n k : Nat) (hn : n < 65536) (hk : k ≤ 16) : IntOp.andi (BitVec.ofNat 32 n) (BitVec.ofNat 32 (2 ^ k - 1)) = BitVec.ofNat 32 (n % 2 ^ k) := by
  have h2 : 2 ^ k ≤ 2 ^ 16 := Nat.pow_le_pow_right (by decide) hk
  have h3 : 0 < 2 ^ k := Nat.two_pow_pos k
  have h4 : n % 2 ^ k ≤ n := Nat.mod_le _ _
  unfold IntOp.andi
  apply BitVec.eq_of_toNat_eq
  rw [BitVec.toNat_and, BitVec.toNat_ofNat, BitVec.toNat_ofNat, BitVec.toNat_ofNat, Nat.mod_eq_of_lt (a := n) (by omega), Nat.mod_eq_of_lt (a := 2 ^ k - 1) (by omega),
    Nat.and_two_pow_sub_one_eq_mod, Nat.mod_eq_of_lt (a := n % 2 ^ k) (by omega)]

theorem f32_norm (w : BitVec 32) (ex fr : Nat) (h1 : (w.extractLsb' 23 8).toNat = ex) (h0 : (w.extractLsb' 0 23).toNat = fr) (hs : (w.extractLsb' 31 1 == 1#1) = false)
    (ha : ex ≠ 255) (hb : ex ≠ 0) : Ideal.ofBits .f32 w = ((((2 ^ 23 + fr : Nat) : ℝ) * (2 : ℝ) ^ ((ex : Int) - 127 - 23) : ℝ) : EReal) := by
  have e : Ideal.ofBits .f32 w = Ideal.ieee 8 23 w := rfl
  rw [e]
  unfold Ideal.ieee
  dsimp only
  rw [h1, h0, if_neg (by simpa using ha), if_neg hb]
  refine congrArg (fun r : ℝ => (r : EReal)) ?_
  rw [show 8 + 23 = 31 from rfl, hs]
  norm_num

theorem two_f32 : Ideal.ofBits .f32 1073741824#32 = ((2 : ℝ) : EReal) := by
  rw [f32_norm _ 128 0 (by decide) (by decide) (by decide) (by decide) (by decide)]
  refine congrArg (fun r : ℝ => (r : EReal)) ?_
  norm_num

theorem eight_f32 : Ideal.ofBits .f32 1090519040#32 = ((8 : ℝ) : EReal) := by
  rw [f32_norm _ 130 0 (by decide) (by decide) (by decide) (by decide) (by decide)]
  refine congrArg (fun r : ℝ => (r : EReal)) ?_
  norm_num

theorem one_f32 : Ideal.ofBits .f32 1065353216#32 = 1 := by
  rw [f32_norm _ 127 0 (by decide) (by decide) (by decide) (by decide) (by decide), ← EReal.coe_one]
  refine congrArg (fun r : ℝ => (r : EReal)) ?_
  norm_num

theorem k_f32 : Ideal.ofBits .f32 1149239296#32 = ((1024 : ℝ) : EReal) := by
  rw [f32_norm _ 137 0 (by decide) (by decide) (by decide) (by decide) (by decide)]
  refine congrArg (fun r : ℝ => (r : EReal)) ?_
  norm_num

theorem tiny_f32 : Ideal.ofBits .f32 864026624#32 = (((2 : ℝ) ^ (-24 : ℤ) : ℝ) : EReal) := by
  rw [f32_norm _ 103 0 (by decide) (by decide) (by decide) (by decide) (by decide)]
  refine congrArg (fun r : ℝ => (r : EReal)) ?_
  norm_num

theorem toInt_small (n : Nat) (h : n < 65536) : (BitVec.ofNat 32 n).toInt = n := by
  rw [BitVec.toInt_eq_toNat_of_lt, BitVec.toNat_ofNat, Nat.mod_eq_of_lt (by omega)]
  rw [BitVec.toNat_ofNat, Nat.mod_eq_of_lt (by omega)]; omega

theorem exp_word (e : Fin 32) : (IntOp.subi (BitVec.ofNat 32 e.val) 25#32).toInt = (e.val : ℤ) - 25 := by
  revert e; decide +kernel

theorem small_eq (a b : Nat) (ha : a < 65536) (hb : b < 65536) : (BitVec.ofNat 32 a = BitVec.ofNat 32 b) ↔ a = b := by
  constructor
  · intro h
    have := congrArg BitVec.toNat h
    rwa [BitVec.toNat_ofNat, BitVec.toNat_ofNat, Nat.mod_eq_of_lt (by omega), Nat.mod_eq_of_lt (by omega)] at this
  · rintro rfl; rfl

theorem ref_word (h : BitVec 16) :
  Scalar.select (IntOp.cmpi CmpIPredicate.eq (IntOp.shrsi ArithUnit.host (BitVec.setWidth 32 h) 15#32) 1#32)
      (FloatOps.hostNegf (F := Ideal) (φ := .f32)
        (Scalar.select
          (IntOp.cmpi CmpIPredicate.eq (IntOp.andi (IntOp.shrsi ArithUnit.host (BitVec.setWidth 32 h) 10#32) 31#32)
            0#32)
          (FloatOps.mulf (FloatOps.sitofp FTy.f32 (IntOp.andi (BitVec.setWidth 32 h) 1023#32))
            (FloatOps.ofBits FTy.f32 864026624#32))
          (FloatOps.mulf
            (FloatOps.addf (FloatOps.ofBits FTy.f32 1149239296#32)
              (FloatOps.sitofp FTy.f32 (IntOp.andi (BitVec.setWidth 32 h) 1023#32)))
            (FloatOps.hostPowf (FloatOps.ofBits FTy.f32 1073741824#32)
              (FloatOps.sitofp FTy.f32
                (IntOp.subi (IntOp.andi (IntOp.shrsi ArithUnit.host (BitVec.setWidth 32 h) 10#32) 31#32) 25#32))))))
      (Scalar.select
        (IntOp.cmpi CmpIPredicate.eq (IntOp.andi (IntOp.shrsi ArithUnit.host (BitVec.setWidth 32 h) 10#32) 31#32) 0#32)
        (FloatOps.mulf (FloatOps.sitofp FTy.f32 (IntOp.andi (BitVec.setWidth 32 h) 1023#32))
          (FloatOps.ofBits FTy.f32 864026624#32))
        (FloatOps.mulf
          (FloatOps.addf (FloatOps.ofBits FTy.f32 1149239296#32)
            (FloatOps.sitofp FTy.f32 (IntOp.andi (BitVec.setWidth 32 h) 1023#32)))
          (FloatOps.hostPowf (FloatOps.ofBits FTy.f32 1073741824#32)
            (FloatOps.sitofp FTy.f32
              (IntOp.subi (IntOp.andi (IntOp.shrsi ArithUnit.host (BitVec.setWidth 32 h) 10#32) 31#32) 25#32))))) =
    ((halfR h : ℝ) : EReal) := by
  have hlt : h.toNat < 65536 := h.isLt
  have hw : BitVec.setWidth 32 h = BitVec.ofNat 32 h.toNat := by
    apply BitVec.eq_of_toNat_eq
    rw [BitVec.toNat_setWidth, BitVec.toNat_ofNat]
  have hn : (BitVec.ofNat 32 h.toNat).toNat = h.toNat := by rw [BitVec.toNat_ofNat, Nat.mod_eq_of_lt (by omega)]
  have hs : IntOp.shrsi .host (BitVec.setWidth 32 h) 15#32 = BitVec.ofNat 32 (h.toNat / 32768) := by
    rw [hw]; exact (host_shr _ 15 (by decide) (by rw [hn]; exact hlt)).trans (congrArg (BitVec.ofNat 32) (by rw [hn]; norm_num))
  have he : IntOp.andi (IntOp.shrsi .host (BitVec.setWidth 32 h) 10#32) 31#32 = BitVec.ofNat 32 (h.toNat / 1024 % 32) := by
    have e1 : IntOp.shrsi .host (BitVec.setWidth 32 h) 10#32 = BitVec.ofNat 32 (h.toNat / 1024) := by
      rw [hw]; exact (host_shr _ 10 (by decide) (by rw [hn]; exact hlt)).trans (congrArg (BitVec.ofNat 32) (by rw [hn]; norm_num))
    rw [e1]; exact host_and _ 5 (by omega) (by decide)
  have hm : IntOp.andi (BitVec.setWidth 32 h) 1023#32 = BitVec.ofNat 32 (h.toNat % 1024) := by
    rw [hw]; exact host_and _ 10 (by omega) (by decide)
  rw [hs, he, hm, select_eq, select_eq]
  have key : (if BitVec.ofNat 32 (h.toNat / 1024 % 32) = 0#32 then
        FloatOps.mulf (FloatOps.sitofp (F := Ideal) FTy.f32 (BitVec.ofNat 32 (h.toNat % 1024))) (FloatOps.ofBits FTy.f32 864026624#32)
      else FloatOps.mulf (FloatOps.addf (FloatOps.ofBits FTy.f32 1149239296#32) (FloatOps.sitofp FTy.f32 (BitVec.ofNat 32 (h.toNat % 1024))))
          (FloatOps.hostPowf (FloatOps.ofBits FTy.f32 1073741824#32) (FloatOps.sitofp FTy.f32 (IntOp.subi (BitVec.ofNat 32 (h.toNat / 1024 % 32)) 25#32))))
      = ((magR h : ℝ) : EReal) := by
    have hm1 : (FloatOps.sitofp (F := Ideal) FTy.f32 (BitVec.ofNat 32 (h.toNat % 1024)) : EReal) = ((((h.toNat % 1024 : ℕ) : ℝ)) : EReal) := by
      show ((((BitVec.ofNat 32 (h.toNat % 1024)).toInt : ℝ)) : EReal) = _
      rw [toInt_small _ (by omega)]; norm_cast
    unfold magR
    by_cases hz : h.toNat / 1024 % 32 = 0
    · rw [if_pos (by rw [hz]), if_pos hz]
      refine (congrArg₂ (fun a b : EReal => a * b) hm1 tiny_f32).trans ?_
      rw [← EReal.coe_mul]
    · rw [if_neg (fun hh => hz ((small_eq _ 0 (by omega) (by decide)).1 hh)), if_neg hz]
      have hp : (FloatOps.hostPowf (F := Ideal) (φ := .f32) (FloatOps.ofBits FTy.f32 1073741824#32) (FloatOps.sitofp FTy.f32 (IntOp.subi (BitVec.ofNat 32 (h.toNat / 1024 % 32)) 25#32)) : EReal)
          = (((2 : ℝ) ^ (((h.toNat / 1024 % 32 : ℕ) : ℤ) - 25) : ℝ) : EReal) := by
        show Ideal.pow (Ideal.ofBits .f32 1073741824#32) ((((IntOp.subi (BitVec.ofNat 32 (h.toNat / 1024 % 32)) 25#32).toInt : ℝ)) : EReal) = _
        rw [two_f32, exp_word ⟨h.toNat / 1024 % 32, by omega⟩]
        exact congrArg (fun r : ℝ => (r : EReal)) (Real.rpow_intCast 2 _)
      refine (congrArg₂ (fun a b : EReal => a * b) (congrArg₂ (fun a b : EReal => a + b) k_f32 hm1) hp).trans ?_
      rw [← EReal.coe_add, ← EReal.coe_mul]
  unfold halfR sgnR
  by_cases hsg : h.toNat / 32768 = 1
  · rw [if_pos (by rw [hsg]), if_pos hsg]
    refine (congrArg (fun a : EReal => -a) key).trans ?_
    rw [← EReal.coe_neg]
    exact congrArg (fun r : ℝ => (r : EReal)) (neg_one_mul _).symm
  · rw [if_neg (fun hh => hsg ((small_eq _ 1 (by omega) (by decide)).1 hh)), if_neg hsg, one_mul]
    exact key

/-- The reference's scale of one word. -/
theorem ref_scale (x2 : (⟨Cert.ReferenceIdeal.S9728x80, .i16⟩ : BufTy).Contents (Elt Ideal)) (i : Cert.ReferenceIdeal.S9728x80.Idx) :
    val_main_v28 (F := Ideal) x2 i = ((halfR (x2 i) : ℝ) : EReal) := by
  simp only [val_main_v28_apply, val_main_v27_apply, val_main_v26_apply, val_main_v25_apply, val_main_v24_apply, val_main_v23_apply, val_main_v22_apply,
    val_main_v21_apply, val_main_v20_apply, val_main_v19_apply, val_main_v18_apply, val_main_v17_apply, val_main_v16_apply, val_main_v15_apply,
    val_main_v14_apply, val_main_v13_apply, val_main_v12_apply, val_main_v11_apply, val_main_v10_apply, val_main_v9_apply, val_main_v8_apply,
    val_main_v7_apply, val_main_v6_apply, val_main_v5_apply, val_main_v4_apply, val_main_v3_apply, val_main_v2_apply,
    val_main_c_apply, val_main_c_0_apply, val_main_c_1_apply, val_main_c_2_apply, val_main_c_3_apply, val_main_c_6_apply, val_main_c_7_apply,
    val_main_cst_apply, val_main_cst_4_apply, val_main_cst_5_apply]
  generalize x2 i = h
  exact ref_word h

/-- The up product is the gate product's function. -/
theorem up_eq (x0 x3 x4 x7 x10 x11) : val_main_v139 (F := Ideal) x0 x3 x4 x7 x10 x11 = val_main_v70 (F := Ideal) x0 x3 x4 x7 x10 x11 := rfl

theorem ref_h (x0 x1 x2 x3 x4 x7 x8 x9 x10 x11) (i) : val_main_v148 (F := Ideal) x0 x1 x2 x3 x4 x7 x8 x9 x10 x11 i
    = val_main_v70 (F := Ideal) x0 x1 x2 x7 x8 x9 i * Ideal.logistic (val_main_v70 (F := Ideal) x0 x1 x2 x7 x8 x9 i) * val_main_v70 (F := Ideal) x0 x3 x4 x7 x10 x11 i := by
  simp only [val_main_v148_apply, val_main_v147_apply, val_main_v146_apply, val_main_v145_apply, val_main_v144_apply, val_main_v143_apply, val_main_v142_apply,
    val_main_v141_apply, val_main_v140_apply, val_main_cst_28_apply, val_main_cst_29_apply, up_eq]
  generalize val_main_v70 (F := Ideal) x0 x1 x2 x7 x8 x9 i = g
  generalize val_main_v70 (F := Ideal) x0 x3 x4 x7 x10 x11 i = u
  show g * Ideal.div (Ideal.ofBits .f32 1065353216#32) (Ideal.ofBits .f32 1065353216#32 + Ideal.exp (-g)) * u = _
  rw [one_f32]
  rfl

theorem low_word (b : BitVec 8) : (IntOp.andi (BitVec.setWidth 32 b) 15#32).toInt = ((b.toNat % 16 : ℕ) : ℤ) := by
  revert b; decide +kernel
theorem high_word (b : BitVec 8) : (IntOp.shrsi .host (BitVec.setWidth 32 b) 4#32).toInt = ((b.toNat / 16 : ℕ) : ℤ) := by
  revert b; decide +kernel

/-- The reference's low weight. -/
theorem ref_low (x1 x2) (f : Fin 9728) (c : Fin 1280) : val_main_v40 (F := Ideal) x1 x2 (ix2 f c)
    = ((((nibI (x1 (ix2 f c)) (2 * c.val) : ℤ) : ℝ) * halfR (x2 (ix2 f ⟨c.val / 16, by omega⟩)) : ℝ) : EReal) := by
  simp only [val_main_v40_apply, val_main_v39_apply, val_main_v38_apply, val_main_v37_apply, val_main_v36_apply, val_main_v35_apply, val_main_v34_apply,
   val_main_v33_apply, val_main_v32_apply, val_main_v31_apply, val_main_v30_apply, val_main_v29_apply, val_main_c_8_apply, val_main_cst_9_apply, ref_scale]
  have e1 : idx_main_v33 (idx_main_v39 (ix2 f c)) = ix2 f c := by
    funext a; apply Fin.ext
    match a with
    | ⟨0, _⟩ => show (((f.val * 1280 + c.val) / 1280 * 80 + (f.val * 1280 + c.val) / 16 % 80) * 16 + (f.val * 1280 + c.val) % 16) / 1280 = f.val; omega
    | ⟨1, _⟩ => show (((f.val * 1280 + c.val) / 1280 * 80 + (f.val * 1280 + c.val) / 16 % 80) * 16 + (f.val * 1280 + c.val) % 16) % 1280 = c.val; omega
  have e2 : idx_main_v36 (idx_main_v37 (idx_main_v39 (ix2 f c))) = ix2 f ⟨c.val / 16, by omega⟩ := by
    funext a; apply Fin.ext
    match a with
    | ⟨0, _⟩ => show (f.val * 1280 + c.val) / 1280 = f.val; omega
    | ⟨1, _⟩ => show (f.val * 1280 + c.val) / 16 % 80 = c.val / 16; omega
  rw [e1, e2]
  generalize x1 (ix2 f c) = q
  generalize x2 (ix2 f ⟨c.val / 16, by omega⟩) = h
  show (((((IntOp.andi (BitVec.setWidth 32 q) 15#32).toInt : ℝ)) : EReal) - Ideal.ofBits .f32 1090519040#32) * _ = _
  rw [low_word, eight_f32, ← EReal.coe_sub, ← EReal.coe_mul]
  unfold nibI
  rw [if_pos (by omega)]
  push_cast
  rfl

/-- The reference's high weight. -/
theorem ref_high (x1 x2) (f : Fin 9728) (c : Fin 1280) : val_main_v52 (F := Ideal) x1 x2 (ix2 f c)
    = ((((nibI (x1 (ix2 f c)) (2 * c.val + 1) : ℤ) : ℝ) * halfR (x2 (ix2 f ⟨c.val / 16, by omega⟩)) : ℝ) : EReal) := by
  simp only [val_main_v52_apply, val_main_v51_apply, val_main_v50_apply, val_main_v49_apply, val_main_v48_apply, val_main_v47_apply, val_main_v46_apply,
   val_main_v45_apply, val_main_v44_apply, val_main_v43_apply, val_main_v42_apply, val_main_v41_apply, val_main_c_10_apply, val_main_cst_11_apply, ref_scale]
  have e1 : idx_main_v45 (idx_main_v51 (ix2 f c)) = ix2 f c := by
    funext a; apply Fin.ext
    match a with
    | ⟨0, _⟩ => show (((f.val * 1280 + c.val) / 1280 * 80 + (f.val * 1280 + c.val) / 16 % 80) * 16 + (f.val * 1280 + c.val) % 16) / 1280 = f.val; omega
    | ⟨1, _⟩ => show (((f.val * 1280 + c.val) / 1280 * 80 + (f.val * 1280 + c.val) / 16 % 80) * 16 + (f.val * 1280 + c.val) % 16) % 1280 = c.val; omega
  have e2 : idx_main_v48 (idx_main_v49 (idx_main_v51 (ix2 f c))) = ix2 f ⟨c.val / 16, by omega⟩ := by
    funext a; apply Fin.ext
    match a with
    | ⟨0, _⟩ => show (f.val * 1280 + c.val) / 1280 = f.val; omega
    | ⟨1, _⟩ => show (f.val * 1280 + c.val) / 16 % 80 = c.val / 16; omega
  rw [e1, e2]
  generalize x1 (ix2 f c) = q
  generalize x2 (ix2 f ⟨c.val / 16, by omega⟩) = h
  show (((((IntOp.shrsi .host (BitVec.setWidth 32 q) 4#32).toInt : ℝ)) : EReal) - Ideal.ofBits .f32 1090519040#32) * _ = _
  rw [high_word, eight_f32, ← EReal.coe_sub, ← EReal.coe_mul]
  unfold nibI
  rw [if_neg (by omega)]
  push_cast
  rfl

theorem ref_xlow_half (x0) (b : Fin 160) (k : Fin 80) (r : Fin 16) : val_main_v55 (F := Ideal) x0 (ix4 b 0 k r) = x0 (ix3 b 0 ⟨32 * k.val + 0 + r.val, by omega⟩) := by
  simp only [val_main_v55_apply, val_main_v54_apply, val_main_v53_apply]
  have e0 : (((b.val * 1 + 0) * 80 + k.val) * 16 + r.val) / 1280 = b.val := by omega
  have e2 : (((b.val * 1 + 0) * 80 + k.val) * 16 + r.val) / 16 % 80 = k.val := by omega
  have e4 : (((b.val * 1 + 0) * 80 + k.val) * 16 + r.val) % 16 = r.val := by omega
  refine congrArg x0 ?_
  funext a; apply Fin.ext
  match a with
  | ⟨0, _⟩ =>
    show (((((((b.val * 1 + 0) * 80 + k.val) * 16 + r.val) / 1280 * 1 + 0) * 80 + (((b.val * 1 + 0) * 80 + k.val) * 16 + r.val) / 16 % 80) * 2 + 0) * 16
      + (((b.val * 1 + 0) * 80 + k.val) * 16 + r.val) % 16) / 2560 = b.val
    rw [e0, e2, e4]; omega
  | ⟨1, _⟩ => rfl
  | ⟨2, _⟩ =>
    show (((((((b.val * 1 + 0) * 80 + k.val) * 16 + r.val) / 1280 * 1 + 0) * 80 + (((b.val * 1 + 0) * 80 + k.val) * 16 + r.val) / 16 % 80) * 2 + 0) * 16
      + (((b.val * 1 + 0) * 80 + k.val) * 16 + r.val) % 16) % 2560 = 32 * k.val + 0 + r.val
    rw [e0, e2, e4]; omega

theorem ref_xlow (x0) (b : Fin 160) (c : Fin 1280) : val_main_v56 (F := Ideal) x0 (ix3 b 0 c) = x0 (ix3 b 0 ⟨32 * (c.val / 16) + 0 + c.val % 16, by omega⟩) := by
  have e : idx_main_v56 (ix3 b 0 c) = ix4 b 0 ⟨c.val / 16, by omega⟩ ⟨c.val % 16, by omega⟩ := by
    funext a; apply Fin.ext
    match a with
    | ⟨0, _⟩ => show ((b.val * 1 + 0) * 1280 + c.val) / 1280 = b.val; omega
    | ⟨1, _⟩ => rfl
    | ⟨2, _⟩ => show ((b.val * 1 + 0) * 1280 + c.val) / 16 % 80 = c.val / 16; omega
    | ⟨3, _⟩ => show ((b.val * 1 + 0) * 1280 + c.val) % 16 = c.val % 16; omega
  rw [val_main_v56_apply, e, ref_xlow_half]

theorem ref_xhigh_half (x0) (b : Fin 160) (k : Fin 80) (r : Fin 16) : val_main_v58 (F := Ideal) x0 (ix4 b 0 k r) = x0 (ix3 b 0 ⟨32 * k.val + 16 + r.val, by omega⟩) := by
  simp only [val_main_v58_apply, val_main_v57_apply, val_main_v53_apply]
  have e0 : (((b.val * 1 + 0) * 80 + k.val) * 16 + r.val) / 1280 = b.val := by omega
  have e2 : (((b.val * 1 + 0) * 80 + k.val) * 16 + r.val) / 16 % 80 = k.val := by omega
  have e4 : (((b.val * 1 + 0) * 80 + k.val) * 16 + r.val) % 16 = r.val := by omega
  refine congrArg x0 ?_
  funext a; apply Fin.ext
  match a with
  | ⟨0, _⟩ =>
    show (((((((b.val * 1 + 0) * 80 + k.val) * 16 + r.val) / 1280 * 1 + 0) * 80 + (((b.val * 1 + 0) * 80 + k.val) * 16 + r.val) / 16 % 80) * 2 + (1 + 0)) * 16
      + (((b.val * 1 + 0) * 80 + k.val) * 16 + r.val) % 16) / 2560 = b.val
    rw [e0, e2, e4]; omega
  | ⟨1, _⟩ => rfl
  | ⟨2, _⟩ =>
    show (((((((b.val * 1 + 0) * 80 + k.val) * 16 + r.val) / 1280 * 1 + 0) * 80 + (((b.val * 1 + 0) * 80 + k.val) * 16 + r.val) / 16 % 80) * 2 + (1 + 0)) * 16
      + (((b.val * 1 + 0) * 80 + k.val) * 16 + r.val) % 16) % 2560 = 32 * k.val + 16 + r.val
    rw [e0, e2, e4]; omega

theorem ref_xhigh (x0) (b : Fin 160) (c : Fin 1280) : val_main_v59 (F := Ideal) x0 (ix3 b 0 c) = x0 (ix3 b 0 ⟨32 * (c.val / 16) + 16 + c.val % 16, by omega⟩) := by
  have e : idx_main_v59 (ix3 b 0 c) = ix4 b 0 ⟨c.val / 16, by omega⟩ ⟨c.val % 16, by omega⟩ := by
    funext a; apply Fin.ext
    match a with
    | ⟨0, _⟩ => show ((b.val * 1 + 0) * 1280 + c.val) / 1280 = b.val; omega
    | ⟨1, _⟩ => rfl
    | ⟨2, _⟩ => show ((b.val * 1 + 0) * 1280 + c.val) / 16 % 80 = c.val / 16; omega
    | ⟨3, _⟩ => show ((b.val * 1 + 0) * 1280 + c.val) % 16 = c.val % 16; omega
  rw [val_main_v59_apply, e, ref_xhigh_half]

end Cert.Q4
-- ==== Proof.RefLowRank.lean ====
/- The reference’s low-rank part. -/
module

public import proofs.«01_k».proof.Proof.Tile
public import proofs.«01_k».proof.Proof.GateTile
public import proofs.«01_k».proof.Proof.LowRank
public import proofs.«01_k».proof.Proof.Gen.ReferenceIdeal.Read
@[expose] public section

noncomputable section

namespace Cert.Q4

open Idealize.ShloMosaic Cert.KernelIdeal Cert.KernelIdeal.Gen

open Cert.ReferenceIdeal.Read

theorem ref_sel (x7) (b : Fin 160) (a : Fin 7) : val_main_v0 (F := Ideal) x7 (ix2 b a) = if x7 (ix1 b) = BitVec.ofNat 32 a.val then 1 else 0 := by
  simp only [val_main_v0_apply, val_main_call0_v4_apply, val_main_call0_v3_apply, val_main_call0_v2_apply, val_main_call0_v1_apply, val_main_call0_v0_apply]
  have e : idx_main_call0_v0 (idx_main_call0_v2 (ix2 b a)) = ix1 b := by
    funext a; match a with | ⟨0, _⟩ => rfl
  rw [e, show (ix2 b a 1 : Fin 7).val = a.val from rfl]
  generalize x7 (ix1 b) = v
  show ((((IntOp.cmpi CmpIPredicate.eq v (BitVec.ofNat 32 a.val)).toNat : ℝ)) : EReal) = _
  unfold IntOp.cmpi
  by_cases h : v = BitVec.ofNat 32 a.val
  · rw [if_pos h]; simp [h]
  · rw [if_neg h]; simp [h]

theorem ref_lora (x0 x7 x8 x9) (b : Fin 160) (f : Fin 9728) : val_main_v67 (F := Ideal) x0 x7 x8 x9 (ix3 b 0 f)
    = ∑ a : Fin 7, ∑ r : Fin 16, val_main_v66 (F := Ideal) x0 x7 x8 (ix4 b 0 a r) * x9 (ix3 a r f) := by
  unfold val_main_v67
  generalize val_main_v66 (F := Ideal) x0 x7 x8 = y
  simp only [Host.dotGeneral]
  pointwise
  try rfl

theorem ref_low63 (x0 x8) (b : Fin 160) (a : Fin 7) (r : Fin 16) : val_main_v63 (F := Ideal) x0 x8 (ix4 b 0 a r) = ∑ k : Fin 2560, x0 (ix3 b 0 k) * x8 (ix3 a k r) := by
  unfold val_main_v63
  simp only [Host.dotGeneral]
  pointwise
  try rfl

end Cert.Q4
-- ==== Proof.Sums.lean ====
/- Sums over blocks. -/
module

public import proofs.«01_k».proof.Proof.Tile

@[expose] public section

noncomputable section

namespace Cert.Q4

open Idealize.ShloMosaic Cert.KernelIdeal Cert.KernelIdeal.Gen

/-- A sum over blocks is the sum over their places in order. -/
theorem sum_blocks (a : Nat) (F : Nat → EReal) : (n : Nat) → ∑ k : Fin n, ∑ p : Fin a, F (a * k.val + p.val) = ∑ i ∈ Finset.range (n * a), F i
  | 0 => by simp
  | n + 1 => by
    rw [Fin.sum_univ_castSucc, Nat.succ_mul, Finset.sum_range_add, ← sum_blocks a F n, Finset.sum_range]
    refine congrArg₂ _ rfl (Finset.sum_congr rfl fun p _ => ?_)
    rw [Fin.val_last, Nat.mul_comm]

/-- A sum over twice as many places, the even and the odd ones apart. -/
theorem sum_pairs (F : Nat → EReal) : (n : Nat) →
    ∑ i ∈ Finset.range (n * 2), F i = ∑ c ∈ Finset.range n, F (2 * c) + ∑ c ∈ Finset.range n, F (2 * c + 1)
  | 0 => by simp
  | n + 1 => by
    rw [Nat.succ_mul, Finset.sum_range_succ, Finset.sum_range_succ, Finset.sum_range_succ, Finset.sum_range_succ, sum_pairs F n, Nat.mul_comm n 2]
    abel

/-- The inputs in the order the blocks hold them. -/
theorem sum_inputs (F : Nat → EReal) : ∑ k : Fin 10, ∑ p : Fin 256, F (256 * k.val + p.val)
    = ∑ c : Fin 1280, F (2 * c.val) + ∑ c : Fin 1280, F (2 * c.val + 1) := by
  rw [sum_blocks 256 F 10, show 10 * 256 = 1280 * 2 from rfl, sum_pairs, Finset.sum_range, Finset.sum_range]

/-- The low-rank columns, adapter by adapter. -/
theorem sum_ranks (F : Nat → EReal) : ∑ p : Fin 112, F p.val = ∑ a : Fin 7, ∑ r : Fin 16, F (16 * a.val + r.val) := by
  rw [sum_blocks 16 F 7, Finset.sum_range]

/-- Two comes out of a sum. -/
theorem two_mul_sum {n : Nat} (F : Fin n → EReal) : ((2 : ℝ) : EReal) * ∑ i, F i = ∑ i, ((2 : ℝ) : EReal) * F i := by
  induction n with
  | zero => simp
  | succ n ih =>
    rw [Fin.sum_univ_castSucc, Fin.sum_univ_castSucc, EReal.left_distrib_of_nonneg_of_ne_top (by exact_mod_cast (by norm_num : (0:ℝ) ≤ 2)) (EReal.coe_ne_top 2), ih]

end Cert.Q4
-- ==== Proof.Order.lean ====
/- The order of the inputs and of the low-rank columns in the gate and up sums. -/
module

public import proofs.«01_k».proof.Proof.Tile
public import proofs.«01_k».proof.Proof.Sums
public import proofs.«01_k».proof.Proof.GateTile
@[expose] public section

noncomputable section

namespace Cert.Q4

open Idealize.ShloMosaic Cert.KernelIdeal Cert.KernelIdeal.Gen

/-- A gate or up number: the inputs with the low codes, those with the high codes, and twice the selected low-rank part. -/
def gateS (x : Fin 2560 → EReal) (q : Fin 1280 → BitVec 8) (s : Fin 80 → BitVec 16) (id : BitVec 32)
    (A : Fin 7 → Fin 2560 → Fin 16 → EReal) (B : Fin 7 → Fin 16 → EReal) : EReal :=
  (∑ c : Fin 1280, x ⟨32 * (c.val / 16) + 0 + c.val % 16, by omega⟩ * ((((nibI (q c) (2 * c.val) : ℤ) : ℝ) * halfR (s ⟨c.val / 16, by omega⟩) : ℝ) : EReal)
    + ∑ c : Fin 1280, x ⟨32 * (c.val / 16) + 16 + c.val % 16, by omega⟩ * ((((nibI (q c) (2 * c.val + 1) : ℤ) : ℝ) * halfR (s ⟨c.val / 16, by omega⟩) : ℝ) : EReal))
  + ((2 : ℝ) : EReal) * ∑ a : Fin 7, ∑ r : Fin 16, (∑ k : Fin 2560, x k * A a k r) * (if id = BitVec.ofNat 32 a.val then 1 else 0) * B a r

theorem nib_even (b : BitVec 8) (p k : Nat) : nibI b p = nibI b (256 * k + p) := by
  unfold nibI
  have h : (256 * k + p) % 2 = p % 2 := by omega
  rw [h]

/-- The kernel's order of the inputs and of the low-rank columns. -/
theorem gate_eq (x : Fin 2560 → EReal) (q : Fin 1280 → BitVec 8) (s : Fin 80 → BitVec 16) (id : BitVec 32)
    (A : Fin 7 → Fin 2560 → Fin 16 → EReal) (B : Fin 7 → Fin 16 → EReal) :
    (∑ p : Fin 112, (if BitVec.ofNat 32 (p.val / 16) = id then (∑ k : Fin 2560, x k * A ⟨p.val / 16, by omega⟩ k ⟨p.val % 16, by omega⟩) * ((2 : ℝ) : EReal) else 0)
        * B ⟨p.val / 16, by omega⟩ ⟨p.val % 16, by omega⟩)
      + ∑ k : Fin 10, ∑ p : Fin 256, x ⟨32 * ((256 * k.val + p.val) / 32) + (256 * k.val + p.val) % 2 * 16 + (256 * k.val + p.val) % 32 / 2, by omega⟩
        * ((((nibI (q ⟨128 * k.val + p.val / 2, by omega⟩) p.val : ℤ) : ℝ) * halfR (s ⟨8 * k.val + p.val / 32, by omega⟩) : ℝ) : EReal)
    = gateS x q s id A B := by
  have h1 := sum_inputs (fun n => if h : n < 2560 then x ⟨32 * (n / 32) + n % 2 * 16 + n % 32 / 2, by omega⟩
        * ((((nibI (q ⟨n / 2, by omega⟩) n : ℤ) : ℝ) * halfR (s ⟨n / 32, by omega⟩) : ℝ) : EReal) else 0)
  have h2 := sum_ranks (fun n => if h : n < 112 then (if BitVec.ofNat 32 (n / 16) = id then (∑ k : Fin 2560, x k * A ⟨n / 16, by omega⟩ k ⟨n % 16, by omega⟩) * ((2 : ℝ) : EReal) else 0)
        * B ⟨n / 16, by omega⟩ ⟨n % 16, by omega⟩ else 0)
  unfold gateS
  rw [add_comm]
  refine congrArg₂ (fun a b : EReal => a + b) ?_ ?_
  · refine Eq.trans ?_ (h1.trans ?_)
    · refine Finset.sum_congr rfl fun k _ => Finset.sum_congr rfl fun p _ => ?_
      rw [dif_pos (show 256 * k.val + p.val < 2560 by omega), nib_even _ p.val k.val]
      have e1 : (⟨128 * k.val + p.val / 2, by omega⟩ : Fin 1280) = ⟨(256 * k.val + p.val) / 2, by omega⟩ := Fin.ext (by dsimp only; omega)
      have e2 : (⟨8 * k.val + p.val / 32, by omega⟩ : Fin 80) = ⟨(256 * k.val + p.val) / 32, by omega⟩ := Fin.ext (by dsimp only; omega)
      rw [e1, e2]
    · refine congrArg₂ (fun a b : EReal => a + b) (Finset.sum_congr rfl fun c _ => ?_) (Finset.sum_congr rfl fun c _ => ?_)
      · rw [dif_pos (show 2 * c.val < 2560 by omega)]
        have e1 : (⟨2 * c.val / 2, by omega⟩ : Fin 1280) = c := Fin.ext (by dsimp only; omega)
        have e2 : (⟨2 * c.val / 32, by omega⟩ : Fin 80) = ⟨c.val / 16, by omega⟩ := Fin.ext (by dsimp only; omega)
        have e3 : (⟨32 * (2 * c.val / 32) + 2 * c.val % 2 * 16 + 2 * c.val % 32 / 2, by omega⟩ : Fin 2560) = ⟨32 * (c.val / 16) + 0 + c.val % 16, by omega⟩ := Fin.ext (by dsimp only; omega)
        rw [e1, e2, e3]
      · rw [dif_pos (show 2 * c.val + 1 < 2560 by omega)]
        have e1 : (⟨(2 * c.val + 1) / 2, by omega⟩ : Fin 1280) = c := Fin.ext (by dsimp only; omega)
        have e2 : (⟨(2 * c.val + 1) / 32, by omega⟩ : Fin 80) = ⟨c.val / 16, by omega⟩ := Fin.ext (by dsimp only; omega)
        have e3 : (⟨32 * ((2 * c.val + 1) / 32) + (2 * c.val + 1) % 2 * 16 + (2 * c.val + 1) % 32 / 2, by omega⟩ : Fin 2560) = ⟨32 * (c.val / 16) + 16 + c.val % 16, by omega⟩ := Fin.ext (by dsimp only; omega)
        rw [e1, e2, e3]
  · rw [two_mul_sum]
    refine Eq.trans ?_ (h2.trans ?_)
    · refine Finset.sum_congr rfl fun p _ => ?_
      rw [dif_pos p.isLt]
    · refine Finset.sum_congr rfl fun a _ => ?_
      rw [two_mul_sum]
      refine Finset.sum_congr rfl fun r _ => ?_
      rw [dif_pos (show 16 * a.val + r.val < 112 by omega)]
      have e1 : (16 * a.val + r.val) / 16 = a.val := by omega
      have e2 : (16 * a.val + r.val) % 16 = r.val := by omega
      simp only [e1, e2, Fin.eta]
      by_cases h : id = BitVec.ofNat 32 a.val
      · rw [if_pos h.symm, if_pos h, mul_one, mul_comm _ ((2 : ℝ) : EReal), mul_assoc]
      · rw [if_neg (Ne.symm h), if_neg h, mul_zero, zero_mul, mul_zero]

end Cert.Q4
-- ==== Proof.RefGate.lean ====
/- The reference’s gate. -/
module

public import proofs.«01_k».proof.Proof.Tile
public import proofs.«01_k».proof.Proof.RefScale
public import proofs.«01_k».proof.Proof.RefLowRank
public import proofs.«01_k».proof.Proof.Order
@[expose] public section

noncomputable section

namespace Cert.Q4

open Idealize.ShloMosaic Cert.KernelIdeal Cert.KernelIdeal.Gen

open Cert.ReferenceIdeal.Read

/-- The reference's gate. -/
theorem ref_gate (x0 x1 x2 x7 x8 x9) (b : Fin 160) (f : Fin 9728) : val_main_v70 (F := Ideal) x0 x1 x2 x7 x8 x9 (ix3 b 0 f)
    = gateS (fun k => x0 (ix3 b 0 k)) (fun k => x1 (ix2 f k)) (fun k => x2 (ix2 f k)) (x7 (ix1 b)) (fun a k r => x8 (ix3 a k r)) (fun a r => x9 (ix3 a r f)) := by
  have hl60 : ∀ k, lidx_main_v60 (ix3 b 0 f) k = ix3 b 0 k := fun k => by
    funext a; match a with | ⟨0, _⟩ => rfl | ⟨1, _⟩ => rfl | ⟨2, _⟩ => rfl
  have hr60 : ∀ k, ridx_main_v60 (ix3 b 0 f) k = ix2 f k := fun k => by
    funext a; match a with | ⟨0, _⟩ => rfl | ⟨1, _⟩ => rfl
  have hl61 : ∀ k, lidx_main_v61 (ix3 b 0 f) k = ix3 b 0 k := fun k => by
    funext a; match a with | ⟨0, _⟩ => rfl | ⟨1, _⟩ => rfl | ⟨2, _⟩ => rfl
  have hr61 : ∀ k, ridx_main_v61 (ix3 b 0 f) k = ix2 f k := fun k => by
    funext a; match a with | ⟨0, _⟩ => rfl | ⟨1, _⟩ => rfl
  have hlo : val_main_v67 (F := Ideal) x0 x7 x8 x9 (ix3 b 0 f) = ∑ a : Fin 7, ∑ r : Fin 16,
      (∑ k : Fin 2560, x0 (ix3 b 0 k) * x8 (ix3 a k r)) * (if x7 (ix1 b) = BitVec.ofNat 32 a.val then 1 else 0) * x9 (ix3 a r f) := by
    rw [ref_lora]
    refine Finset.sum_congr rfl fun a _ => Finset.sum_congr rfl fun r _ => ?_
    rw [val_main_v66_apply, val_main_v65_apply, ref_low63, val_main_v64_apply, val_main_v1_apply]
    have e : idx_main_v1 (idx_main_v64 (ix4 b 0 a r)) = ix2 b a := by
      funext a; match a with | ⟨0, _⟩ => rfl | ⟨1, _⟩ => rfl
    rw [e, ref_sel]
    rfl
  rw [val_main_v70_apply, val_main_v62_apply, val_main_v69_apply, val_main_v60_apply, val_main_v61_apply, hlo, val_main_v68_apply, val_main_cst_12_apply]
  unfold gateS
  refine congrArg₂ (fun a c : EReal => a + c) (congrArg₂ (fun a c : EReal => a + c) (Finset.sum_congr rfl fun c _ => ?_) (Finset.sum_congr rfl fun c _ => ?_))
    (congrArg (fun a : EReal => a * _) two_f32)
  · rw [hl60, hr60, ref_xlow, ref_low]
  · rw [hl61, hr61, ref_xhigh, ref_high]

end Cert.Q4
-- ==== Proof.Permute.lean ====
/- The permuted input rows, read at an index. -/
module

public import proofs.«01_k».proof.Proof.Tile

@[expose] public section

noncomputable section

namespace Cert.Q4

open Idealize.ShloMosaic Cert.KernelIdeal Cert.KernelIdeal.Gen

/-- The lane that lane `l` of a permuted block is read from. -/
def permN (l : Nat) : Nat := l - l % 32 + l % 2 * 16 + l % 32 / 2

theorem permN_lt (l : Fin 128) : permN l.val < 128 := by
  unfold permN; omega

/-- `permI` at a lane, as a word. -/
theorem permI_apply (b : Fin 160) (l : Fin 128) : permI (ix2 b l) = BitVec.ofNat 32 (permN l.val) := by
  have e : permI (ix2 b l) = permI (ix2 0 l) := rfl
  rw [e]; clear e
  revert l
  decide +kernel

theorem permB_apply (v : FVec Ideal S160x128 .bf16) (b : Fin 160) (l : Fin 128) :
    permB (F := Ideal) v (ix2 b l) = v (ix2 b ⟨permN l.val, permN_lt l⟩) := by
  unfold permB
  pointwise
  have key : ∀ l : Fin 128, (Scalar.select (IntOp.cmpi CmpIPredicate.slt (BitVec.ofNat 32 (permN l.val)) 0#32)
      (IntOp.addi (BitVec.ofNat 32 (permN l.val)) 128#32) (BitVec.ofNat 32 (permN l.val))).toNat % 128 = permN l.val := by decide +kernel
  refine congrArg (fun n => v (ix2 b n)) (Fin.ext ?_)
  dsimp only
  rw [permI_apply]
  exact key l

/-- The permuted input rows at an index. -/
theorem xpArr_apply (x : Vec Ideal S160x2560 .bf16) (b : Fin 160) (c : Fin 2560) :
    xpArr (F := Ideal) x (ix2 b c) = x (ix2 b ⟨32 * (c.val / 32) + c.val % 2 * 16 + c.val % 32 / 2, by omega⟩) := by
  unfold xpArr
  refine (View.canon_apply_of_pieces (Val := Elt Ideal) (fun i : S160x2560.Idx => x (ix2 (i 0) ⟨32 * ((i 1).val / 32) + (i 1).val % 2 * 16 + (i 1).val % 32 / 2,
    by have : (i 1).val < 2560 := (i 1).isLt; omega⟩)) _ ?_ (ix2 b c) ?_).trans rfl
  · intro p hp y
    obtain ⟨j, hj, rfl⟩ := List.mem_map.1 hp
    change S160x128.Idx at y
    obtain ⟨r, l, rfl⟩ : ∃ r l, y = ix2 r l := ⟨y 0, y 1, eq_ix2 y⟩
    have e1 : ∀ (v : FVec Ideal S160x128 .bf16), shapeCast S160x128 (permB (F := Ideal) (shapeCast S160x128 v shapeCasts_S160x128_S160x128)) shapeCasts_S160x128_S160x128 (ix2 r l)
        = v (ix2 r ⟨permN l.val, permN_lt l⟩) := by
      intro v
      rw [shapeCast_id, permB_apply, shapeCast_id]
    refine (e1 (View.ld x (rP j))).trans ?_
    refine congrArg x ?_
    funext a; apply Fin.ext
    match a with
    | ⟨0, _⟩ => show 0 + 1 * r.val = 0 + 1 * r.val; rfl
    | ⟨1, _⟩ =>
      show 128 * j.val + 1 * permN l.val = 32 * ((128 * j.val + 1 * l.val) / 32) + (128 * j.val + 1 * l.val) % 2 * 16 + (128 * j.val + 1 * l.val) % 32 / 2
      unfold permN
      have := l.isLt
      omega
  · have hj : c.val / 128 < 20 := by omega
    refine ⟨_, List.mem_map.2 ⟨⟨c.val / 128, hj⟩, ?_, rfl⟩, ?_⟩
    · generalize (⟨c.val / 128, hj⟩ : Fin 20) = j
      revert j; decide
    · rw [Rect.mem_set_unit]
      intro a
      match a with
      | ⟨0, _⟩ => exact ⟨Nat.zero_le _, by have := b.isLt; show b.val < 0 + 160; omega⟩
      | ⟨1, _⟩ => exact ⟨by show 128 * (c.val / 128) ≤ c.val; omega, by show c.val < 128 * (c.val / 128) + 128; omega⟩

end Cert.Q4
-- ==== Proof.Products.lean ====
/- The gate and up products of a block as sums. -/
module

public import proofs.«01_k».proof.Proof.Tile

@[expose] public section

noncomputable section

namespace Cert.Q4

open Idealize.ShloMosaic Cert.KernelIdeal Cert.KernelIdeal.Gen

theorem prod2_left (x : FVec Ideal S160x256 .bf16) (a b : FVec Ideal S256x128 .bf16) (r : Fin 160) (l : Fin 128) :
    prod2 (F := Ideal) x a b (ix2 r ⟨l.val, by omega⟩) = ∑ p : Fin 256, x (ix2 r p) * a (ix2 p l) := by
  unfold prod2
  pointwise

theorem prod2_right (x : FVec Ideal S160x256 .bf16) (a b : FVec Ideal S256x128 .bf16) (r : Fin 160) (l : Fin 128) :
    prod2 (F := Ideal) x a b (ix2 r ⟨128 + l.val, by omega⟩) = ∑ p : Fin 256, x (ix2 r p) * b (ix2 p l) := by
  unfold prod2
  pointwise

theorem bdiag_left (g u : FVec Ideal S112x128 .bf16) (t : FVec Ideal S160x256 .bf16) (r : Fin 160) (l : Fin 128) :
    matmul dot_S160x256_S256x256_S160x256_1_0_0_1_n_n none t (bdiag g u) (constant S160x256 .f32 0x00000000#32) (ix2 r ⟨l.val, by omega⟩)
     = ∑ p : Fin 112, t (ix2 r ⟨p.val, by omega⟩) * g (ix2 p l) := by
  unfold bdiag
  pointwise
  rw [Fin.sum_univ_two_halves 112 144 rfl, Finset.sum_congr rfl (g := fun p : Fin 112 => t (ix2 r ⟨p.val, by omega⟩) * g (ix2 p l)),
    Finset.sum_eq_zero (s := (Finset.univ : Finset (Fin 144))), add_zero]
  · intro p _
    rw [dif_neg (by dsimp only; omega)]
    split_ifs <;> exact mul_zero _
  · intro p _
    rw [dif_pos (by dsimp only; omega)]
theorem bdiag_right (g u : FVec Ideal S112x128 .bf16) (t : FVec Ideal S160x256 .bf16) (r : Fin 160) (l : Fin 128) :
    matmul dot_S160x256_S256x256_S160x256_1_0_0_1_n_n none t (bdiag g u) (constant S160x256 .f32 0x00000000#32) (ix2 r ⟨128 + l.val, by omega⟩)
     = ∑ p : Fin 112, t (ix2 r ⟨128 + p.val, by omega⟩) * u (ix2 p l) := by
  unfold bdiag
  pointwise
  rw [Fin.sum_univ_two_halves 128 128 rfl, Finset.sum_eq_zero (s := (Finset.univ : Finset (Fin 128))), zero_add,
    Fin.sum_univ_two_halves 112 16 rfl, Finset.sum_eq_zero (s := (Finset.univ : Finset (Fin 16))), add_zero]
  · refine Finset.sum_congr rfl fun p _ => ?_
    rw [dif_neg (by dsimp only; omega), dif_neg (by dsimp only; omega), dif_pos (by dsimp only; omega)]
    refine congrArg _ (congrArg (fun n => u (ix2 n l)) (Fin.ext ?_))
    dsimp only; omega
  · intro p _
    rw [dif_neg (by dsimp only; omega), dif_neg (by dsimp only; omega), dif_neg (by dsimp only; omega)]
    exact mul_zero _
  · intro p _
    have := p.isLt
    split_ifs <;> first | exact mul_zero _ | (exfalso; dsimp only at *; omega)

/-- The gate columns of a block's products. -/
theorem acc_left (t : FVec Ideal S160x256 .bf16) (bg bu : FVec Ideal S112x128 .bf16) (x : Fin 10 → FVec Ideal S160x256 .bf16)
    (g u : Fin 10 → FVec Ideal S256x128 .bf16) (r : Fin 160) (l : Fin 128) : (n : Nat) → (h : n ≤ 10) →
    acc (F := Ideal) t bg bu x g u n h (ix2 r ⟨l.val, by omega⟩)
      = (∑ p : Fin 112, t (ix2 r ⟨p.val, by omega⟩) * bg (ix2 p l))
        + ∑ k : Fin n, ∑ p : Fin 256, x ⟨k.val, by omega⟩ (ix2 r p) * g ⟨k.val, by omega⟩ (ix2 p l)
  | 0, _ => by
    rw [Fin.sum_univ_zero, add_zero]
    exact bdiag_left bg bu t r l
  | n + 1, h => by
    rw [Fin.sum_univ_castSucc (n := n), ← add_assoc]
    show acc (F := Ideal) t bg bu x g u n (Nat.le_of_succ_le h) (ix2 r ⟨l.val, by omega⟩) + prod2 (F := Ideal) (x ⟨n, h⟩) (g ⟨n, h⟩) (u ⟨n, h⟩) (ix2 r ⟨l.val, by omega⟩) = _
    rw [acc_left t bg bu x g u r l n (Nat.le_of_succ_le h), prod2_left]
    rfl

/-- The up columns of a block's products. -/
theorem acc_right (t : FVec Ideal S160x256 .bf16) (bg bu : FVec Ideal S112x128 .bf16) (x : Fin 10 → FVec Ideal S160x256 .bf16)
    (g u : Fin 10 → FVec Ideal S256x128 .bf16) (r : Fin 160) (l : Fin 128) : (n : Nat) → (h : n ≤ 10) →
    acc (F := Ideal) t bg bu x g u n h (ix2 r ⟨128 + l.val, by omega⟩)
      = (∑ p : Fin 112, t (ix2 r ⟨128 + p.val, by omega⟩) * bu (ix2 p l))
        + ∑ k : Fin n, ∑ p : Fin 256, x ⟨k.val, by omega⟩ (ix2 r p) * u ⟨k.val, by omega⟩ (ix2 p l)
  | 0, _ => by
    rw [Fin.sum_univ_zero, add_zero]
    exact bdiag_right bg bu t r l
  | n + 1, h => by
    rw [Fin.sum_univ_castSucc (n := n), ← add_assoc]
    show acc (F := Ideal) t bg bu x g u n (Nat.le_of_succ_le h) (ix2 r ⟨128 + l.val, by omega⟩) + prod2 (F := Ideal) (x ⟨n, h⟩) (g ⟨n, h⟩) (u ⟨n, h⟩) (ix2 r ⟨128 + l.val, by omega⟩) = _
    rw [acc_right t bg bu x g u r l n (Nat.le_of_succ_le h), prod2_right]
    rfl

end Cert.Q4
-- ==== Proof.HiddenBlock.lean ====
/- A grid point’s hidden block, read at an index. -/
module

public import proofs.«01_k».proof.Proof.Tile
public import proofs.«01_k».proof.Proof.GateTile
public import proofs.«01_k».proof.Proof.Permute
public import proofs.«01_k».proof.Proof.Products
public import proofs.«01_k».proof.Proof.LowRank
@[expose] public section

noncomputable section

namespace Cert.Q4

open Idealize.ShloMosaic Cert.KernelIdeal Cert.KernelIdeal.Gen

theorem ld_x (x : Vec Ideal S160x2560 .bf16) (k : Fin 10) (r : Fin 160) (p : Fin 256) :
    (View.ld x (rX k) : Vec Ideal S160x256 .bf16) (ix2 r p) = x (ix2 r ⟨256 * k.val + p.val, by omega⟩) := by
  refine congrArg x ?_
  funext a; apply Fin.ext
  match a with
  | ⟨0, _⟩ => show 0 + 1 * r.val = r.val; omega
  | ⟨1, _⟩ => show 256 * k.val + 1 * p.val = 256 * k.val + p.val; omega

theorem ld_q (x : Vec Ideal S256x1280 .i8) (f : Fin 2) (k : Fin 10) (r p : Fin 128) :
    (View.ld x (rQ f k) : Vec Ideal S128x128 .i8) (ix2 r p) = x (ix2 ⟨128 * f.val + r.val, by omega⟩ ⟨128 * k.val + p.val, by omega⟩) := by
  refine congrArg x ?_
  funext a; apply Fin.ext
  match a with
  | ⟨0, _⟩ => show 128 * f.val + 1 * r.val = 128 * f.val + r.val; omega
  | ⟨1, _⟩ => show 128 * k.val + 1 * p.val = 128 * k.val + p.val; omega

theorem ld_l (x : Vec Ideal S112x256 .bf16) (f : Fin 2) (r : Fin 112) (p : Fin 128) :
    (View.ld x (rL f) : Vec Ideal S112x128 .bf16) (ix2 r p) = x (ix2 r ⟨128 * f.val + p.val, by omega⟩) := by
  refine congrArg x ?_
  funext a; apply Fin.ext
  match a with
  | ⟨0, _⟩ => show 0 + 1 * r.val = r.val; omega
  | ⟨1, _⟩ => show 128 * f.val + 1 * p.val = 128 * f.val + p.val; omega

/-- A gate or up number in the kernel's order, of a block of codes `q`, scales `s` and low-rank weights `w`; `o` is where
    the low-rank columns start. -/
def gateK (q : Vec Ideal S256x1280 .i8) (s : Vec Ideal S80x256 .i16) (w : Vec Ideal S112x256 .bf16) (x : Vec Ideal S160x2560 .bf16)
    (t : Fin 112 → EReal) (b : Fin 160) (l : Fin 256) : EReal :=
  (∑ p : Fin 112, t p * w (ix2 p l))
    + ∑ k : Fin 10, ∑ p : Fin 256, x (ix2 b ⟨256 * k.val + p.val, by omega⟩)
      * ((((nibI (q (ix2 l ⟨128 * k.val + p.val / 2, by omega⟩)) p.val : ℤ) : ℝ) * halfR (s (ix2 ⟨8 * k.val + p.val / 32, by omega⟩ l)) : ℝ) : EReal)

theorem hOf_apply (f : Fin 2) (x2 x3 : Vec Ideal S256x1280 .i8) (x4 x5 : Vec Ideal S80x256 .i16) (x9 x11 : Vec Ideal S112x256 .bf16)
    (xs0 : Vec Ideal S160x2560 .bf16) (xs1 : Vec Ideal S160x256 .bf16) (b : Fin 160) (l : Fin 128) (L : Fin 256) (hL : L = ⟨128 * f.val + l.val, by omega⟩) :
    hOf (F := Ideal) f x2 x3 x4 x5 x9 x11 xs0 xs1 (ix2 b l)
      = gateK x2 x4 x9 xs0 (fun p => xs1 (ix2 b ⟨p.val, by omega⟩)) b L
        * Ideal.logistic (gateK x2 x4 x9 xs0 (fun p => xs1 (ix2 b ⟨p.val, by omega⟩)) b L)
        * gateK x3 x5 x11 xs0 (fun p => xs1 (ix2 b ⟨128 + p.val, by omega⟩)) b L := by
  subst hL
  unfold hOf hblk
  rw [hid_apply, acc_left, acc_right]
  have e1 : ∀ (q : Vec Ideal S256x1280 .i8) (s : Vec Ideal S80x256 .i16) (w : Vec Ideal S112x256 .bf16) (t : Fin 112 → EReal),
      (∑ p : Fin 112, t p * (View.ld w (rL f) : Vec Ideal S112x128 .bf16) (ix2 p l))
        + ∑ k : Fin 10, ∑ p : Fin 256, (View.ld xs0 (rX k) : Vec Ideal S160x256 .bf16) (ix2 b p) * gtile (F := Ideal) f k (View.ld q (rQ f k)) s (ix2 p l)
      = gateK q s w xs0 t b ⟨128 * f.val + l.val, by omega⟩ := by
    intro q s w t
    unfold gateK
    refine congrArg₂ (fun a b : EReal => a + b) (Finset.sum_congr rfl fun p _ => ?_) (Finset.sum_congr rfl fun k _ => Finset.sum_congr rfl fun p _ => ?_)
    · rw [ld_l]
    · rw [ld_x, gtile_apply, ld_q]
  have g := e1 x2 x4 x9 (fun p => xs1 (ix2 b ⟨p.val, by omega⟩))
  have u := e1 x3 x5 x11 (fun p => xs1 (ix2 b ⟨128 + p.val, by omega⟩))
  exact congrArg₂ (fun a c : EReal => a * Ideal.logistic a * c) g u

/-- The hidden block at an index. -/
theorem hArr_apply (x2 x3 : Vec Ideal S256x1280 .i8) (x4 x5 : Vec Ideal S80x256 .i16) (x9 x11 : Vec Ideal S112x256 .bf16)
    (xs0 : Vec Ideal S160x2560 .bf16) (xs1 : Vec Ideal S160x256 .bf16) (b : Fin 160) (l : Fin 256) :
    hArr (F := Ideal) x2 x3 x4 x5 x9 x11 xs0 xs1 (ix2 b l)
      = gateK x2 x4 x9 xs0 (fun p => xs1 (ix2 b ⟨p.val, by omega⟩)) b l
        * Ideal.logistic (gateK x2 x4 x9 xs0 (fun p => xs1 (ix2 b ⟨p.val, by omega⟩)) b l)
        * gateK x3 x5 x11 xs0 (fun p => xs1 (ix2 b ⟨128 + p.val, by omega⟩)) b l := by
  unfold hArr
  rw [canon_two]
  by_cases h : l.val < 128
  · rw [if_pos h]
    exact hOf_apply 0 x2 x3 x4 x5 x9 x11 xs0 xs1 b _ l (Fin.ext (by show l.val = 128 * 0 + l.val % 128; omega))
  · rw [if_neg h]
    exact hOf_apply 1 x2 x3 x4 x5 x9 x11 xs0 xs1 b _ l (Fin.ext (by show l.val = 128 * 1 + l.val % 128; omega))

/-- The selected low-rank columns, the gate's and the up product's. -/
theorem tArr_left (x0 : Vec Ideal S160x1 .i32) (x1 : Vec Ideal S160x2560 .bf16) (x8 x10 : Vec Ideal S112x2560 .bf16) (b : Fin 160) (p : Fin 112) :
    tArr (F := Ideal) x0 x1 x8 x10 (ix2 b ⟨p.val, by omega⟩)
      = if BitVec.ofNat 32 (p.val / 16) = x0 (ix2 b 0) then (∑ k : Fin 2560, x1 (ix2 b k) * x8 (ix2 p k)) * ((2 : ℝ) : EReal) else 0 := by
  unfold tArr
  rw [canon_two, if_pos (by show p.val < 128; omega), shapeCast_id]
  have e : (⟨p.val % 128, Nat.mod_lt _ (by decide)⟩ : Fin 128) = ⟨p.val, by omega⟩ := Fin.ext (by show p.val % 128 = p.val; omega)
  refine (congrArg (fun j => tPart (F := Ideal) x0 (lowB x1 x8) (ix2 b j)) e).trans ?_
  rw [tPart_apply, selB_apply, lowB_apply]

theorem tArr_right (x0 : Vec Ideal S160x1 .i32) (x1 : Vec Ideal S160x2560 .bf16) (x8 x10 : Vec Ideal S112x2560 .bf16) (b : Fin 160) (p : Fin 112) :
    tArr (F := Ideal) x0 x1 x8 x10 (ix2 b ⟨128 + p.val, by omega⟩)
      = if BitVec.ofNat 32 (p.val / 16) = x0 (ix2 b 0) then (∑ k : Fin 2560, x1 (ix2 b k) * x10 (ix2 p k)) * ((2 : ℝ) : EReal) else 0 := by
  unfold tArr
  rw [canon_two, if_neg (by show ¬ (128 + p.val < 128); omega), shapeCast_id]
  have e : (⟨(128 + p.val) % 128, Nat.mod_lt _ (by decide)⟩ : Fin 128) = ⟨p.val, by omega⟩ := Fin.ext (by show (128 + p.val) % 128 = p.val; omega)
  refine (congrArg (fun j => tPart (F := Ideal) x0 (lowB x1 x10) (ix2 b j)) e).trans ?_
  rw [tPart_apply, selB_apply, lowB_apply]

end Cert.Q4
-- ==== Proof.Carried.lean ====
/- What the grid points carry, and the hidden array they leave. -/
module

public import proofs.«01_k».proof.Proof.Tile
public import proofs.«01_k».proof.Proof.StepA
public import proofs.«01_k».proof.Proof.StepB
public import proofs.«01_k».proof.Proof.StepC
public import proofs.«01_k».proof.Proof.Gen.KernelIdeal.Value
@[expose] public section

noncomputable section

namespace Cert.Q4

open Idealize.ShloMosaic Cert.KernelIdeal Cert.KernelIdeal.Gen

variable (m : (ℓ : Loc nD τ sig) → Buf (Elt Ideal) ℓ)

/-- The first grid point. -/
abbrev pt0 : Fin cfg0.N := ⟨0, lt_of_lt_of_eq (by decide) N_0.symm⟩

/-- The permuted rows the first point leaves. -/
def xpOf (c : Dev nD) : Vec Ideal S160x2560 .bf16 := xpArr (iblk m c 1 pt0)

/-- The selected low-rank columns the first point leaves. -/
def tOf (c : Dev nD) : Vec Ideal S160x256 .bf16 := tArr (iblk m c 0 pt0) (iblk m c 1 pt0) (iblk m c 8 pt0) (iblk m c 10 pt0)

/-- What the first point leaves in the two scratches stays. -/
theorem first_sc (c : Dev nD) (t : Fin cfg0.N) (h0 : t.val % 38 = 0) (h1 : ¬t.val % 38 = 37) (acc) :
    (Value.stAt0 m c t.val t.isLt acc).2.2.1 = xpArr (iblk m c 1 t) ∧
    (Value.stAt0 m c t.val t.isLt acc).2.2.2.1 = tArr (iblk m c 0 t) (iblk m c 1 t) (iblk m c 8 t) (iblk m c 10 t) ∧
    (Value.stAt0 m c t.val t.isLt acc).2.1 = hArr (iblk m c 2 t) (iblk m c 3 t) (iblk m c 4 t) (iblk m c 5 t)
      (iblk m c 9 t) (iblk m c 11 t) (xpArr (iblk m c 1 t)) (tArr (iblk m c 0 t) (iblk m c 1 t) (iblk m c 8 t) (iblk m c 10 t)) := by
  refine ⟨?_, ?_, ?_⟩
  · rw [Value.stAt0_A m c t acc h0 h1]; dsimp only; rw [sout0_A_0_val]
  · rw [Value.stAt0_A m c t acc h0 h1]; dsimp only; rw [sout0_A_1_val]
  · rw [Value.stAt0_A m c t acc h0 h1]; dsimp only; rw [out0_A_15_val]

theorem mid_sc (c : Dev nD) (t : Fin cfg0.N) (h0 : ¬t.val % 38 = 0) (acc) :
    (Value.stAt0 m c t.val t.isLt acc).2.2.1 = acc.2.2.1 ∧
    (Value.stAt0 m c t.val t.isLt acc).2.2.2.1 = acc.2.2.2.1 ∧
    (Value.stAt0 m c t.val t.isLt acc).2.1 = hArr (iblk m c 2 t) (iblk m c 3 t) (iblk m c 4 t) (iblk m c 5 t)
      (iblk m c 9 t) (iblk m c 11 t) acc.2.2.1 acc.2.2.2.1 := by
  by_cases h1 : t.val % 38 = 37
  · refine ⟨?_, ?_, ?_⟩
    · rw [Value.stAt0_C m c t acc h0 h1]; dsimp only; unfold sout0_C_0; rfl
    · rw [Value.stAt0_C m c t acc h0 h1]; dsimp only; unfold sout0_C_1; rfl
    · rw [Value.stAt0_C m c t acc h0 h1]; dsimp only; rw [out0_C_15_val]
  · refine ⟨?_, ?_, ?_⟩
    · rw [Value.stAt0_B m c t acc h0 h1]; dsimp only; unfold sout0_B_0; rfl
    · rw [Value.stAt0_B m c t acc h0 h1]; dsimp only; unfold sout0_B_1; rfl
    · rw [Value.stAt0_B m c t acc h0 h1]; dsimp only; rw [out0_B_15_val]

theorem carried (c : Dev nD) : (n : Nat) → (hn : n < cfg0.N) →
    (outsAt0 m c n hn).2.2.1 = xpOf m c ∧ (outsAt0 m c n hn).2.2.2.1 = tOf m c
  | 0, hn => by
    rw [Value.outsAt0_zero]
    have := first_sc m c ⟨0, hn⟩ (Nat.zero_mod _) (by dsimp only; omega) Value.junk0
    exact ⟨this.1, this.2.1⟩
  | n + 1, hn => by
    have hN : n + 1 < 38 := lt_of_lt_of_eq hn N_0
    have ih := carried c n (Nat.lt_of_succ_lt hn)
    rw [Value.outsAt0_succ]
    have := mid_sc m c ⟨n + 1, hn⟩ (by dsimp only; omega) (outsAt0 m c n (Nat.lt_of_succ_lt hn))
    exact ⟨this.1.trans ih.1, this.2.1.trans ih.2⟩

/-- The hidden block a grid point leaves. -/
theorem hidden_at (c : Dev nD) : (n : Nat) → (hn : n < cfg0.N) →
    (outsAt0 m c n hn).2.1 = hArr (iblk m c 2 ⟨n, hn⟩) (iblk m c 3 ⟨n, hn⟩) (iblk m c 4 ⟨n, hn⟩) (iblk m c 5 ⟨n, hn⟩)
      (iblk m c 9 ⟨n, hn⟩) (iblk m c 11 ⟨n, hn⟩) (xpOf m c) (tOf m c)
  | 0, hn => by
    rw [Value.outsAt0_zero]
    exact (first_sc m c ⟨0, hn⟩ (Nat.zero_mod _) (by dsimp only; omega) Value.junk0).2.2
  | n + 1, hn => by
    have hN : n + 1 < 38 := lt_of_lt_of_eq hn N_0
    have ih := carried m c n (Nat.lt_of_succ_lt hn)
    rw [← ih.1, ← ih.2, Value.outsAt0_succ]
    exact (mid_sc m c ⟨n + 1, hn⟩ (by dsimp only; omega) (outsAt0 m c n (Nat.lt_of_succ_lt hn))).2.2

/-- The hidden array after the run, block by block. -/
theorem G15_eq (c : Dev nD) (i : S160x9728.Idx) (t : Fin cfg0.N) (ht : Value.pt15Of i = t.val) :
    Value.G15 m c i = hArr (iblk m c 2 t) (iblk m c 3 t) (iblk m c 4 t) (iblk m c 5 t) (iblk m c 9 t) (iblk m c 11 t) (xpOf m c) (tOf m c)
      (Value.loc15Of i) := by
  unfold Value.G15
  rw [dif_pos (ht ▸ t.isLt)]
  obtain ⟨n, hn⟩ := t
  dsimp only at ht
  subst ht
  rw [← Value.outsAt0_sweep m c _ hn, hidden_at]

end Cert.Q4
-- ==== Proof.Arrays.lean ====
/- The arrays the launch makes and the windows’ blocks, read at an index. -/
module

public import proofs.«01_k».proof.Proof.Tile
public import proofs.«01_k».proof.Proof.Gen.KernelIdeal.Value
@[expose] public section

noncomputable section

namespace Cert.Q4

open Idealize.ShloMosaic Cert.KernelIdeal Cert.KernelIdeal.Gen

variable (m : (ℓ : Loc nD τ sig) → Buf (Elt Ideal) ℓ)

theorem V_v4 (c : Dev nD) (a : Fin 80) (b : Fin 9728) : (V m c main_v4 : Vec Ideal S80x9728 .i16) (ix2 a b) = (m ((c.tc : Thread nD τ).loc main_arg2) : Vec Ideal S9728x80 .i16) (ix2 b a) := by
  unfold V
  after_reads_at
  try rfl

theorem V_v5 (c : Dev nD) (a : Fin 80) (b : Fin 9728) : (V m c main_v5 : Vec Ideal S80x9728 .i16) (ix2 a b) = (m ((c.tc : Thread nD τ).loc main_arg4) : Vec Ideal S9728x80 .i16) (ix2 b a) := by
  unfold V
  after_reads_at
  try rfl

theorem V_v3 (c : Dev nD) (a : Fin 160) (b : Fin 2560) : (V m c main_v3 : Vec Ideal S160x2560 .bf16) (ix2 a b) = (m ((c.tc : Thread nD τ).loc main_arg0) : Vec Ideal S160x1x2560 .bf16) (ix3 a 0 b) := by
  unfold V
  after_reads_at
  try rfl

theorem V_v2 (c : Dev nD) (a : Fin 160) : (V m c main_v2 : Vec Ideal S160x1 .i32) (ix2 a 0) = (m ((c.tc : Thread nD τ).loc main_arg7) : Vec Ideal S160 .i32) (ix1 a) := by
  unfold V
  after_reads_at
  try rfl

theorem V_v8 (c : Dev nD) (a : Fin 112) (b : Fin 2560) : (V m c main_v8 : Vec Ideal S112x2560 .bf16) (ix2 a b) = (m ((c.tc : Thread nD τ).loc main_arg8) : Vec Ideal S7x2560x16 .bf16) (ix3 ⟨a.val / 16, by omega⟩ b ⟨a.val % 16, by omega⟩) := by
  unfold V
  after_reads_at
  try rfl

theorem V_v9 (c : Dev nD) (a : Fin 112) (b : Fin 9728) : (V m c main_v9 : Vec Ideal S112x9728 .bf16) (ix2 a b) = (m ((c.tc : Thread nD τ).loc main_arg9) : Vec Ideal S7x16x9728 .bf16) (ix3 ⟨a.val / 16, by omega⟩ ⟨a.val % 16, by omega⟩ b) := by
  unfold V
  after_reads_at
  try rfl

theorem V_v11 (c : Dev nD) (a : Fin 112) (b : Fin 2560) : (V m c main_v11 : Vec Ideal S112x2560 .bf16) (ix2 a b) = (m ((c.tc : Thread nD τ).loc main_arg10) : Vec Ideal S7x2560x16 .bf16) (ix3 ⟨a.val / 16, by omega⟩ b ⟨a.val % 16, by omega⟩) := by
  unfold V
  after_reads_at
  try rfl

theorem V_v12 (c : Dev nD) (a : Fin 112) (b : Fin 9728) : (V m c main_v12 : Vec Ideal S112x9728 .bf16) (ix2 a b) = (m ((c.tc : Thread nD τ).loc main_arg11) : Vec Ideal S7x16x9728 .bf16) (ix3 ⟨a.val / 16, by omega⟩ ⟨a.val % 16, by omega⟩ b) := by
  unfold V
  after_reads_at
  try rfl

theorem blk2 (c : Dev nD) (t : Fin cfg0.N) (a : Fin 256) (b : Fin 1280) (f : Fin 9728) (hf : f.val = 256 * t.val + a.val) :
    (iblk m c 2 t : Vec Ideal S256x1280 .i8) (ix2 a b) = (V m c main_arg1 : Vec Ideal S9728x1280 .i8) (ix2 f b) := by
  have hi : win0_2.index t 0 = t.val ∧ win0_2.index t 1 = 0 := (by decide +kernel : ∀ t : Fin grid0.N, win0_2.index t 0 = t.val ∧ win0_2.index t 1 = 0) t
  unfold iblk
  rw [View.read_apply]
  show V m c main_arg1 _ = V m c main_arg1 _
  refine congrArg (V m c main_arg1) ?_
  funext k
  apply Fin.ext
  match k with
  | ⟨0, _⟩ => show win0_2.index t 0 * 256 + 1 * a.val = f.val; rw [hi.1]; omega
  | ⟨1, _⟩ => show win0_2.index t 1 * 1280 + 1 * b.val = b.val; rw [hi.2]; omega

theorem blk3 (c : Dev nD) (t : Fin cfg0.N) (a : Fin 256) (b : Fin 1280) (f : Fin 9728) (hf : f.val = 256 * t.val + a.val) :
    (iblk m c 3 t : Vec Ideal S256x1280 .i8) (ix2 a b) = (V m c main_arg3 : Vec Ideal S9728x1280 .i8) (ix2 f b) := by
  have hi : win0_3.index t 0 = t.val ∧ win0_3.index t 1 = 0 := (by decide +kernel : ∀ t : Fin grid0.N, win0_3.index t 0 = t.val ∧ win0_3.index t 1 = 0) t
  unfold iblk
  rw [View.read_apply]
  show V m c main_arg3 _ = V m c main_arg3 _
  refine congrArg (V m c main_arg3) ?_
  funext k
  apply Fin.ext
  match k with
  | ⟨0, _⟩ => show win0_3.index t 0 * 256 + 1 * a.val = f.val; rw [hi.1]; omega
  | ⟨1, _⟩ => show win0_3.index t 1 * 1280 + 1 * b.val = b.val; rw [hi.2]; omega

theorem blk4 (c : Dev nD) (t : Fin cfg0.N) (a : Fin 80) (b : Fin 256) (f : Fin 9728) (hf : f.val = 256 * t.val + b.val) :
    (iblk m c 4 t : Vec Ideal S80x256 .i16) (ix2 a b) = (V m c main_v4 : Vec Ideal S80x9728 .i16) (ix2 a f) := by
  have hi : win0_4.index t 0 = 0 ∧ win0_4.index t 1 = t.val := (by decide +kernel : ∀ t : Fin grid0.N, win0_4.index t 0 = 0 ∧ win0_4.index t 1 = t.val) t
  unfold iblk
  rw [View.read_apply]
  show V m c main_v4 _ = V m c main_v4 _
  refine congrArg (V m c main_v4) ?_
  funext k
  apply Fin.ext
  match k with
  | ⟨0, _⟩ => show win0_4.index t 0 * 80 + 1 * a.val = a.val; rw [hi.1]; omega
  | ⟨1, _⟩ => show win0_4.index t 1 * 256 + 1 * b.val = f.val; rw [hi.2]; omega

theorem blk5 (c : Dev nD) (t : Fin cfg0.N) (a : Fin 80) (b : Fin 256) (f : Fin 9728) (hf : f.val = 256 * t.val + b.val) :
    (iblk m c 5 t : Vec Ideal S80x256 .i16) (ix2 a b) = (V m c main_v5 : Vec Ideal S80x9728 .i16) (ix2 a f) := by
  have hi : win0_5.index t 0 = 0 ∧ win0_5.index t 1 = t.val := (by decide +kernel : ∀ t : Fin grid0.N, win0_5.index t 0 = 0 ∧ win0_5.index t 1 = t.val) t
  unfold iblk
  rw [View.read_apply]
  show V m c main_v5 _ = V m c main_v5 _
  refine congrArg (V m c main_v5) ?_
  funext k
  apply Fin.ext
  match k with
  | ⟨0, _⟩ => show win0_5.index t 0 * 80 + 1 * a.val = a.val; rw [hi.1]; omega
  | ⟨1, _⟩ => show win0_5.index t 1 * 256 + 1 * b.val = f.val; rw [hi.2]; omega

theorem blk9 (c : Dev nD) (t : Fin cfg0.N) (a : Fin 112) (b : Fin 256) (f : Fin 9728) (hf : f.val = 256 * t.val + b.val) :
    (iblk m c 9 t : Vec Ideal S112x256 .bf16) (ix2 a b) = (V m c main_v9 : Vec Ideal S112x9728 .bf16) (ix2 a f) := by
  have hi : win0_9.index t 0 = 0 ∧ win0_9.index t 1 = t.val := (by decide +kernel : ∀ t : Fin grid0.N, win0_9.index t 0 = 0 ∧ win0_9.index t 1 = t.val) t
  unfold iblk
  rw [View.read_apply]
  show V m c main_v9 _ = V m c main_v9 _
  refine congrArg (V m c main_v9) ?_
  funext k
  apply Fin.ext
  match k with
  | ⟨0, _⟩ => show win0_9.index t 0 * 112 + 1 * a.val = a.val; rw [hi.1]; omega
  | ⟨1, _⟩ => show win0_9.index t 1 * 256 + 1 * b.val = f.val; rw [hi.2]; omega

theorem blk11 (c : Dev nD) (t : Fin cfg0.N) (a : Fin 112) (b : Fin 256) (f : Fin 9728) (hf : f.val = 256 * t.val + b.val) :
    (iblk m c 11 t : Vec Ideal S112x256 .bf16) (ix2 a b) = (V m c main_v12 : Vec Ideal S112x9728 .bf16) (ix2 a f) := by
  have hi : win0_11.index t 0 = 0 ∧ win0_11.index t 1 = t.val := (by decide +kernel : ∀ t : Fin grid0.N, win0_11.index t 0 = 0 ∧ win0_11.index t 1 = t.val) t
  unfold iblk
  rw [View.read_apply]
  show V m c main_v12 _ = V m c main_v12 _
  refine congrArg (V m c main_v12) ?_
  funext k
  apply Fin.ext
  match k with
  | ⟨0, _⟩ => show win0_11.index t 0 * 112 + 1 * a.val = a.val; rw [hi.1]; omega
  | ⟨1, _⟩ => show win0_11.index t 1 * 256 + 1 * b.val = f.val; rw [hi.2]; omega

theorem blk0 (c : Dev nD) (t : Fin cfg0.N) (a : Fin 160) (b : Fin 1) :
    (iblk m c 0 t : Vec Ideal S160x1 .i32) (ix2 a b) = (V m c main_v2 : Vec Ideal S160x1 .i32) (ix2 a b) := by
  have hi : win0_0.index t 0 = 0 ∧ win0_0.index t 1 = 0 := (by decide +kernel : ∀ t : Fin grid0.N, win0_0.index t 0 = 0 ∧ win0_0.index t 1 = 0) t
  unfold iblk
  rw [View.read_apply]
  show V m c main_v2 _ = V m c main_v2 _
  refine congrArg (V m c main_v2) ?_
  funext k
  apply Fin.ext
  match k with
  | ⟨0, _⟩ => show win0_0.index t 0 * 160 + 1 * a.val = a.val; rw [hi.1]; omega
  | ⟨1, _⟩ => show win0_0.index t 1 * 1 + 1 * b.val = b.val; rw [hi.2]; omega

theorem blk1 (c : Dev nD) (t : Fin cfg0.N) (a : Fin 160) (b : Fin 2560) :
    (iblk m c 1 t : Vec Ideal S160x2560 .bf16) (ix2 a b) = (V m c main_v3 : Vec Ideal S160x2560 .bf16) (ix2 a b) := by
  have hi : win0_1.index t 0 = 0 ∧ win0_1.index t 1 = 0 := (by decide +kernel : ∀ t : Fin grid0.N, win0_1.index t 0 = 0 ∧ win0_1.index t 1 = 0) t
  unfold iblk
  rw [View.read_apply]
  show V m c main_v3 _ = V m c main_v3 _
  refine congrArg (V m c main_v3) ?_
  funext k
  apply Fin.ext
  match k with
  | ⟨0, _⟩ => show win0_1.index t 0 * 160 + 1 * a.val = a.val; rw [hi.1]; omega
  | ⟨1, _⟩ => show win0_1.index t 1 * 2560 + 1 * b.val = b.val; rw [hi.2]; omega

theorem blk8 (c : Dev nD) (t : Fin cfg0.N) (a : Fin 112) (b : Fin 2560) :
    (iblk m c 8 t : Vec Ideal S112x2560 .bf16) (ix2 a b) = (V m c main_v8 : Vec Ideal S112x2560 .bf16) (ix2 a b) := by
  have hi : win0_8.index t 0 = 0 ∧ win0_8.index t 1 = 0 := (by decide +kernel : ∀ t : Fin grid0.N, win0_8.index t 0 = 0 ∧ win0_8.index t 1 = 0) t
  unfold iblk
  rw [View.read_apply]
  show V m c main_v8 _ = V m c main_v8 _
  refine congrArg (V m c main_v8) ?_
  funext k
  apply Fin.ext
  match k with
  | ⟨0, _⟩ => show win0_8.index t 0 * 112 + 1 * a.val = a.val; rw [hi.1]; omega
  | ⟨1, _⟩ => show win0_8.index t 1 * 2560 + 1 * b.val = b.val; rw [hi.2]; omega

theorem blk10 (c : Dev nD) (t : Fin cfg0.N) (a : Fin 112) (b : Fin 2560) :
    (iblk m c 10 t : Vec Ideal S112x2560 .bf16) (ix2 a b) = (V m c main_v11 : Vec Ideal S112x2560 .bf16) (ix2 a b) := by
  have hi : win0_10.index t 0 = 0 ∧ win0_10.index t 1 = 0 := (by decide +kernel : ∀ t : Fin grid0.N, win0_10.index t 0 = 0 ∧ win0_10.index t 1 = 0) t
  unfold iblk
  rw [View.read_apply]
  show V m c main_v11 _ = V m c main_v11 _
  refine congrArg (V m c main_v11) ?_
  funext k
  apply Fin.ext
  match k with
  | ⟨0, _⟩ => show win0_10.index t 0 * 112 + 1 * a.val = a.val; rw [hi.1]; omega
  | ⟨1, _⟩ => show win0_10.index t 1 * 2560 + 1 * b.val = b.val; rw [hi.2]; omega

end Cert.Q4
-- ==== Proof.HiddenResult.lean ====
/- The hidden array of the arguments. -/
module

public import proofs.«01_k».proof.Proof.Tile
public import proofs.«01_k».proof.Proof.HiddenBlock
public import proofs.«01_k».proof.Proof.Carried
public import proofs.«01_k».proof.Proof.Arrays
public import proofs.«01_k».proof.Proof.Order
@[expose] public section

noncomputable section

namespace Cert.Q4

open Idealize.ShloMosaic Cert.KernelIdeal Cert.KernelIdeal.Gen

variable (m : (ℓ : Loc nD τ sig) → Buf (Elt Ideal) ℓ)

/-- The gate and up numbers of the arguments. -/
def gateM (c : Dev nD) (q : Vec Ideal S9728x1280 .i8) (s : Vec Ideal S9728x80 .i16) (A : Vec Ideal S7x2560x16 .bf16) (B : Vec Ideal S7x16x9728 .bf16)
    (b : Fin 160) (f : Fin 9728) : EReal :=
  gateS (fun k => (m ((c.tc : Thread nD τ).loc main_arg0) : Vec Ideal S160x1x2560 .bf16) (ix3 b 0 k)) (fun k => q (ix2 f k)) (fun k => s (ix2 f k))
    ((m ((c.tc : Thread nD τ).loc main_arg7) : Vec Ideal S160 .i32) (ix1 b)) (fun a k r => A (ix3 a k r)) (fun a r => B (ix3 a r f))

theorem xpOf_apply (c : Dev nD) (b : Fin 160) (j : Fin 2560) : xpOf m c (ix2 b j)
    = (m ((c.tc : Thread nD τ).loc main_arg0) : Vec Ideal S160x1x2560 .bf16) (ix3 b 0 ⟨32 * (j.val / 32) + j.val % 2 * 16 + j.val % 32 / 2, by omega⟩) := by
  unfold xpOf
  rw [xpArr_apply, blk1, V_v3]

theorem tOf_left (c : Dev nD) (b : Fin 160) (p : Fin 112) (X A : Fin 2560 → EReal)
    (hX : ∀ k, (V m c main_v3 : Vec Ideal S160x2560 .bf16) (ix2 b k) = X k) (hA : ∀ k, (V m c main_v8 : Vec Ideal S112x2560 .bf16) (ix2 p k) = A k) :
    tOf m c (ix2 b ⟨p.val, by omega⟩)
    = if BitVec.ofNat 32 (p.val / 16) = (m ((c.tc : Thread nD τ).loc main_arg7) : Vec Ideal S160 .i32) (ix1 b) then (∑ k : Fin 2560, X k * A k) * ((2 : ℝ) : EReal) else 0 := by
  unfold tOf
  rw [tArr_left, blk0, V_v2]
  refine congrArg (fun s : EReal => if BitVec.ofNat 32 (p.val / 16) = (m ((c.tc : Thread nD τ).loc main_arg7) : Vec Ideal S160 .i32) (ix1 b) then s * ((2 : ℝ) : EReal) else 0)
    (Finset.sum_congr rfl fun k _ => ?_)
  exact congrArg₂ (fun a b : EReal => a * b) ((blk1 m c pt0 b k).trans (hX k)) ((blk8 m c pt0 p k).trans (hA k))

theorem tOf_right (c : Dev nD) (b : Fin 160) (p : Fin 112) (X A : Fin 2560 → EReal)
    (hX : ∀ k, (V m c main_v3 : Vec Ideal S160x2560 .bf16) (ix2 b k) = X k) (hA : ∀ k, (V m c main_v11 : Vec Ideal S112x2560 .bf16) (ix2 p k) = A k) :
    tOf m c (ix2 b ⟨128 + p.val, by omega⟩)
    = if BitVec.ofNat 32 (p.val / 16) = (m ((c.tc : Thread nD τ).loc main_arg7) : Vec Ideal S160 .i32) (ix1 b) then (∑ k : Fin 2560, X k * A k) * ((2 : ℝ) : EReal) else 0 := by
  unfold tOf
  rw [tArr_right, blk0, V_v2]
  refine congrArg (fun s : EReal => if BitVec.ofNat 32 (p.val / 16) = (m ((c.tc : Thread nD τ).loc main_arg7) : Vec Ideal S160 .i32) (ix1 b) then s * ((2 : ℝ) : EReal) else 0)
    (Finset.sum_congr rfl fun k _ => ?_)
  exact congrArg₂ (fun a b : EReal => a * b) ((blk1 m c pt0 b k).trans (hX k)) ((blk10 m c pt0 p k).trans (hA k))

theorem gate_block (c : Dev nD) (t : Fin cfg0.N) (b : Fin 160) (l : Fin 256) (f : Fin 9728) (hf : f.val = 256 * t.val + l.val) :
    gateK (iblk m c 2 t) (iblk m c 4 t) (iblk m c 9 t) (xpOf m c) (fun p => tOf m c (ix2 b ⟨p.val, by omega⟩)) b l
      = gateM m c (m ((c.tc : Thread nD τ).loc main_arg1)) (m ((c.tc : Thread nD τ).loc main_arg2)) (m ((c.tc : Thread nD τ).loc main_arg8))
          (m ((c.tc : Thread nD τ).loc main_arg9)) b f := by
  unfold gateM
  rw [← gate_eq]
  unfold gateK
  refine congrArg₂ (fun a b : EReal => a + b) (Finset.sum_congr rfl fun p _ => ?_) (Finset.sum_congr rfl fun k _ => Finset.sum_congr rfl fun p _ => ?_)
  · exact congrArg₂ (fun a b : EReal => a * b) (tOf_left m c b p _ _ (fun k => V_v3 m c b k) (fun k => V_v8 m c p k)) ((blk9 m c t p l f hf).trans (V_v9 m c p f))
  · rw [xpOf_apply, blk2 m c t l _ f hf, blk4 m c t _ l f hf, V_v4, V_main_arg1]

theorem up_block (c : Dev nD) (t : Fin cfg0.N) (b : Fin 160) (l : Fin 256) (f : Fin 9728) (hf : f.val = 256 * t.val + l.val) :
    gateK (iblk m c 3 t) (iblk m c 5 t) (iblk m c 11 t) (xpOf m c) (fun p => tOf m c (ix2 b ⟨128 + p.val, by omega⟩)) b l
      = gateM m c (m ((c.tc : Thread nD τ).loc main_arg3)) (m ((c.tc : Thread nD τ).loc main_arg4)) (m ((c.tc : Thread nD τ).loc main_arg10))
          (m ((c.tc : Thread nD τ).loc main_arg11)) b f := by
  unfold gateM
  rw [← gate_eq]
  unfold gateK
  refine congrArg₂ (fun a b : EReal => a + b) (Finset.sum_congr rfl fun p _ => ?_) (Finset.sum_congr rfl fun k _ => Finset.sum_congr rfl fun p _ => ?_)
  · exact congrArg₂ (fun a b : EReal => a * b) (tOf_right m c b p _ _ (fun k => V_v3 m c b k) (fun k => V_v11 m c p k)) ((blk11 m c t p l f hf).trans (V_v12 m c p f))
  · rw [xpOf_apply, blk3 m c t l _ f hf, blk5 m c t _ l f hf, V_v5, V_main_arg3]

/-- The hidden array the kernel leaves. -/
theorem G15_apply (c : Dev nD) (b : Fin 160) (f : Fin 9728) : Value.G15 m c (ix2 b f)
    = gateM m c (m ((c.tc : Thread nD τ).loc main_arg1)) (m ((c.tc : Thread nD τ).loc main_arg2)) (m ((c.tc : Thread nD τ).loc main_arg8)) (m ((c.tc : Thread nD τ).loc main_arg9)) b f
      * Ideal.logistic (gateM m c (m ((c.tc : Thread nD τ).loc main_arg1)) (m ((c.tc : Thread nD τ).loc main_arg2)) (m ((c.tc : Thread nD τ).loc main_arg8)) (m ((c.tc : Thread nD τ).loc main_arg9)) b f)
      * gateM m c (m ((c.tc : Thread nD τ).loc main_arg3)) (m ((c.tc : Thread nD τ).loc main_arg4)) (m ((c.tc : Thread nD τ).loc main_arg10)) (m ((c.tc : Thread nD τ).loc main_arg11)) b f := by
  have ht : f.val / 256 < cfg0.N := lt_of_lt_of_eq (by omega) N_0.symm
  have hp : Value.pt15Of (ix2 b f) = f.val / 256 := by
    show 38 * (b.val / 160 - 0) + 1 * (f.val / 256 - 0) = f.val / 256
    omega
  have hl : Value.loc15Of (ix2 b f) = ix2 b ⟨f.val % 256, Nat.mod_lt _ (by decide)⟩ := by
    funext a; apply Fin.ext
    match a with
    | ⟨0, _⟩ => show b.val % 160 = b.val; omega
    | ⟨1, _⟩ => rfl
  rw [G15_eq m c _ ⟨f.val / 256, ht⟩ hp, hl, hArr_apply,
    gate_block m c ⟨f.val / 256, ht⟩ b _ f (by show f.val = 256 * (f.val / 256) + f.val % 256; omega),
    up_block m c ⟨f.val / 256, ht⟩ b _ f (by show f.val = 256 * (f.val / 256) + f.val % 256; omega)]

end Cert.Q4
-- ==== Proof.HiddenClaim.lean ====
/- The claim about the hidden array. -/
module

public import proofs.«01_k».proof.Proof.Tile
public import proofs.«01_k».proof.Proof.RefGate
public import proofs.«01_k».proof.Proof.HiddenResult
public import proofs.«01_k».proof.Defs
public import proofs.«01_k».proof.Proof.Gen.ReferenceIdeal.Run
@[expose] public section

noncomputable section

namespace Cert.Q4

open Idealize.ShloMosaic Cert.KernelIdeal Cert.KernelIdeal.Gen

/-- The reference's hidden array. -/
theorem ref_hidden (x0 x1 x2 x3 x4 x7 x8 x9 x10 x11) (b : Fin 160) (f : Fin 9728) :
    Cert.ReferenceIdeal.Read.val_main_v220 (F := Ideal) x0 x1 x2 x3 x4 x7 x8 x9 x10 x11 (ix2 b f)
      = gateS (fun k => x0 (ix3 b 0 k)) (fun k => x1 (ix2 f k)) (fun k => x2 (ix2 f k)) (x7 (ix1 b)) (fun a k r => x8 (ix3 a k r)) (fun a r => x9 (ix3 a r f))
        * Ideal.logistic (gateS (fun k => x0 (ix3 b 0 k)) (fun k => x1 (ix2 f k)) (fun k => x2 (ix2 f k)) (x7 (ix1 b)) (fun a k r => x8 (ix3 a k r)) (fun a r => x9 (ix3 a r f)))
        * gateS (fun k => x0 (ix3 b 0 k)) (fun k => x3 (ix2 f k)) (fun k => x4 (ix2 f k)) (x7 (ix1 b)) (fun a k r => x10 (ix3 a k r)) (fun a r => x11 (ix3 a r f)) := by
  have e : Cert.ReferenceIdeal.Read.idx_main_v220 (ix2 b f) = ix3 b 0 f := by
    funext a; apply Fin.ext
    match a with
    | ⟨0, _⟩ => show (b.val * 9728 + f.val) / 9728 = b.val; omega
    | ⟨1, _⟩ => rfl
    | ⟨2, _⟩ => show (b.val * 9728 + f.val) % 9728 = f.val; omega
  rw [Cert.ReferenceIdeal.Read.val_main_v220_apply, e, ref_h, ref_gate, ref_gate]

/-- The shapes the mask takes. -/
theorem mask_facts : Cert.On_hidden_only.Facts := ⟨by decide, by decide⟩

/-- The two hidden arrays agree, as extended reals. -/
theorem hidden_claim : Cert.algebraic_KernelIdeal_ReferenceIdeal_on_hidden_only (hOn_hidden_only := mask_facts) := by
  intro m g m' g' _ ha
  refine ⟨fun c => Value.G14 m c, fun c => Value.G15 m c, ?_, ?_⟩
  · refine (θ_run Cert.KernelIdeal.defs _ _).mono (fun r h c => ?_) (Value.run (F := Ideal) m g)
    exact ⟨fun i _ => congrFun (h c).1 i, fun i _ => congrFun (h c).2.1 i, (h c).2.2⟩
  · refine (θ_run Cert.ReferenceIdeal.defs _ _).mono (fun r h c => ?_) (Cert.ReferenceIdeal.Value.run (F := Ideal) m' g')
    refine ⟨fun i hi => ?_, fun i _ => ?_, (h c).2.2⟩
    · exact absurd (show (0#1 : BitVec 1) = 1#1 from hi) (by decide)
    · obtain ⟨b, f, rfl⟩ : ∃ b f, i = ix2 b f := ⟨i 0, i 1, eq_ix2 i⟩
      obtain ⟨a0, a1, a2, a3, a4, a5, a6, a7, a8, a9, a10, a11, a12, a13⟩ := ha c
      refine (congrFun ((h c).2.1.trans (Cert.ReferenceIdeal.Read.val_main_v220_eq _)) (ix2 b f)).trans ?_
      refine (ref_hidden _ _ _ _ _ _ _ _ _ _ b f).trans ((Eq.trans ?_ (G15_apply m c b f).symm))
      unfold gateM
      rw [← a0, ← a1, ← a2, ← a3, ← a4, ← a7, ← a8, ← a9, ← a10, ← a11]

end Cert.Q4
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.StepA
public import proofs.«01_k».proof.Proof.StepB
public import proofs.«01_k».proof.Proof.StepC
public import proofs.«01_k».proof.Proof.Tile
public import proofs.«01_k».proof.Proof.HiddenClaim
public import Idealize.ShloMosaic.Adequacy
public import Idealize.ShloMosaic.Init

@[expose] public section

noncomputable section

namespace Cert.Proof

open Idealize.ShloMosaic Idealize.SL.Sem Cert.Kernel

/-- The reference ends, its arguments as they were; it has no semaphore. -/
theorem frame_reference : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- The claims: the frames of the kernel, of its idealization and of the reference's, that idealizing rewrote nothing, and that the
    two hidden arrays agree. -/
theorem claim : Cert.Claim := ⟨Cert.Kernel.Gen.facts, Cert.KernelIdeal.Gen.facts, Cert.ReferenceIdeal.Gen.facts,
  Cert.Q4.mask_facts,
  fun m ρ _ => Cert.Kernel.Gen.frame m ρ, fun m ρ _ => Cert.KernelIdeal.Gen.frame m ρ, frame_reference, trivial, Cert.Q4.hidden_claim⟩

end Cert.Proof

end
